-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_n" .f32 0x384CCCCD#32 ((1 / 20480 : ℝ) : EReal)

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_2)) (v1 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_2) = v0 c
          ∧ r.2.mem ((c.tc : Thread Cert.KernelIdeal.nD Cert.KernelIdeal.τ).loc Cert.KernelIdeal.main_v3_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S20x256x2560 : Shape := ⟨3, ![20, 256, 2560]⟩
abbrev S2560 : Shape := ⟨1, ![2560]⟩
abbrev S_ : Shape := ⟨0, ![]⟩

class Facts : Prop where

variable [Facts]

def fn {F : FTy → Type} [FloatOps F] (main_arg0 : FVec F S20x256x2560 .bf16) (main_arg1 : FVec F S2560 .f32) (main_arg2 : FVec F S2560 .f32) (main_arg3 : FVec F S20x256x2560 .fp8e5m2) (main_arg4 : FVec F S_ .f32) : IVec S_ 1 × IVec S_ 1 :=
  let main_cst : FVec F S_ .f32 := constant S_ .f32 0x00000000#32
  let main_v0 : IVec S_ 1 := cmpf .oge main_arg4 main_cst
  let main_cst_0 : FVec F S_ .f32 := constant S_ .f32 0x7F800000#32
  let main_v1 : IVec S_ 1 := cmpf .olt main_arg4 main_cst_0
  (main_v0, main_v1)
-- ==== Kernel.lean ====
abbrev S20x256x2560 : Shape := ⟨3, ![20, 256, 2560]⟩
abbrev S2560 : Shape := ⟨1, ![2560]⟩
abbrev S_ : Shape := ⟨0, ![]⟩
abbrev S1 : Shape := ⟨1, ![1]⟩
abbrev S1x2560 : Shape := ⟨2, ![1, 2560]⟩
abbrev S1x128 : Shape := ⟨2, ![1, 128]⟩
abbrev S1x256x2560 : Shape := ⟨3, ![1, 256, 2560]⟩
abbrev S8x128 : Shape := ⟨2, ![8, 128]⟩
abbrev S8x2560 : Shape := ⟨2, ![8, 2560]⟩
abbrev S1x32x128 : Shape := ⟨3, ![1, 32, 128]⟩
abbrev S32x128 : Shape := ⟨2, ![32, 128]⟩
abbrev S4x8x128 : Shape := ⟨3, ![4, 8, 128]⟩
abbrev S8 : Shape := ⟨1, ![8]⟩
abbrev S8x1 : Shape := ⟨2, ![8, 1]⟩
abbrev S1x1 : Shape := ⟨2, ![1, 1]⟩
abbrev S1x8x128 : Shape := ⟨3, ![1, 8, 128]⟩
abbrev S1x1x1 : Shape := ⟨3, ![1, 1, 1]⟩

abbrev nBuf : Space → Nat
  | .hbm => 12
  | .vmem => 15
  | .smem => 1
  | _ => 0

abbrev bufTy : (tb : Table) → Fin (tcTables nBuf tb) → BufTy
  | .hbm, ⟨0, _⟩ => ⟨S20x256x2560, .bf16⟩
  | .hbm, ⟨1, _⟩ => ⟨S2560, .f32⟩
  | .hbm, ⟨2, _⟩ => ⟨S2560, .f32⟩
  | .hbm, ⟨3, _⟩ => ⟨S20x256x2560, .fp8e5m2⟩
  | .hbm, ⟨4, _⟩ => ⟨S_, .f32⟩
  | .hbm, ⟨5, _⟩ => ⟨S1, .f32⟩
  | .hbm, ⟨6, _⟩ => ⟨S1x2560, .f32⟩
  | .hbm, ⟨7, _⟩ => ⟨S1x2560, .f32⟩
  | .hbm, ⟨8, _⟩ => ⟨S20x256x2560, .fp8e5m2⟩
  | .hbm, ⟨9, _⟩ => ⟨S1x128, .f32⟩
  | .hbm, ⟨10, _⟩ => ⟨S1x2560, .f32⟩
  | .hbm, ⟨11, _⟩ => ⟨S1x2560, .f32⟩
  | .local _ .vmem, ⟨0, _⟩ => ⟨S1x256x2560, .bf16⟩
  | .local _ .vmem, ⟨1, _⟩ => ⟨S1x256x2560, .bf16⟩
  | .local _ .vmem, ⟨2, _⟩ => ⟨S1x256x2560, .fp8e5m2⟩
  | .local _ .vmem, ⟨3, _⟩ => ⟨S1x256x2560, .fp8e5m2⟩
  | .local _ .vmem, ⟨4, _⟩ => ⟨S1x2560, .f32⟩
  | .local _ .vmem, ⟨5, _⟩ => ⟨S1x2560, .f32⟩
  | .local _ .vmem, ⟨6, _⟩ => ⟨S1x256x2560, .fp8e5m2⟩
  | .local _ .vmem, ⟨7, _⟩ => ⟨S1x256x2560, .fp8e5m2⟩
  | .local _ .vmem, ⟨8, _⟩ => ⟨S1x128, .f32⟩
  | .local _ .vmem, ⟨9, _⟩ => ⟨S1x2560, .f32⟩
  | .local _ .vmem, ⟨10, _⟩ => ⟨S1x2560, .f32⟩
  | .local _ .vmem, ⟨11, _⟩ => ⟨S20x256x2560, .f32⟩
  | .local _ .vmem, ⟨12, _⟩ => ⟨S8x128, .f32⟩
  | .local _ .vmem, ⟨13, _⟩ => ⟨S8x2560, .f32⟩
  | .local _ .vmem, ⟨14, _⟩ => ⟨S8x2560, .f32⟩
  | .local _ .smem, ⟨0, _⟩ => ⟨S1, .f32⟩
  | _, _ => ⟨S20x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c20_i32 : BitVec 32 := 20#32
  let v3 : BitVec 1 := Scalar.cmpi .slt arg0 c20_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_5 : BitVec 32 := 0#32
  let c4_i32 : BitVec 32 := 4#32
  let v14 : BitVec 32 := Scalar.addi c0_i32_5 c4_i32
  let c1_i32 : BitVec 32 := 1#32
  ⟨c0_i32_5, v14, c1_i32⟩
def k0_mult1 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  v15
@[reducible] def k0_t2_loop : Scf.Loop 32 :=
  let c0_i32_12 : BitVec 32 := 0#32
  let c8_i32 : BitVec 32 := 8#32
  let v22 : BitVec 32 := Scalar.addi c0_i32_12 c8_i32
  let c1_i32_13 : BitVec 32 := 1#32
  ⟨c0_i32_12, v22, c1_i32_13⟩
def k0_mult2 (k0_t2 : Fin k0_t2_loop.trips) : BitVec 32 :=
  let c0_i32_12 : BitVec 32 := 0#32
  let c1_i32_13 : BitVec 32 := 1#32
  let arg15 : BitVec 32 := Scf.iv c0_i32_12 c1_i32_13 k0_t2
  let c32_i32_351 : BitVec 32 := 32#32
  let v1016 : BitVec 32 := Scalar.muli arg15 c32_i32_351
  v1016
def k0_mult3 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_352 : BitVec 32 := 0#32
  let v1018 : BitVec 32 := Scalar.addi v16 c0_i32_352
  v1018
def k0_off1 (k0_t1 : Fin k0_t1_loop.trips) (k0_t2 : Fin k0_t2_loop.trips) (c0_i32_352 : BitVec 32) : Fin 3 → Nat :=
  let c0_353 : Index := 0#32
  let c0_i32_12 : BitVec 32 := 0#32
  let c1_i32_13 : BitVec 32 := 1#32
  let arg15 : BitVec 32 := Scf.iv c0_i32_12 c1_i32_13 k0_t2
  let c32_i32_351 : BitVec 32 := 32#32
  let v1016 : BitVec 32 := Scalar.muli arg15 c32_i32_351
  let v1017 : BitVec 32 := v1016
  let v1020 : Index := Scalar.indexCast v1017
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let v1018 : BitVec 32 := Scalar.addi v16 c0_i32_352
  let v1019 : BitVec 32 := v1018
  let v1021 : Index := Scalar.indexCast v1019
  ![0, v1020.toNat, v1021.toNat]
def k0_mult4 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_355 : BitVec 32 := 128#32
  let v1028 : BitVec 32 := Scalar.addi v16 c128_i32_355
  v1028
def k0_mult5 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32_358 : BitVec 32 := 256#32
  let v1038 : BitVec 32 := Scalar.addi v16 c256_i32_358
  v1038
def k0_mult6 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32_361 : BitVec 32 := 384#32
  let v1048 : BitVec 32 := Scalar.addi v16 c384_i32_361
  v1048
def k0_mult7 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32_364 : BitVec 32 := 512#32
  let v1058 : BitVec 32 := Scalar.addi v16 c512_i32_364
  v1058
@[reducible] def k0_t3_loop : Scf.Loop 32 :=
  let c0_i32_71 : BitVec 32 := 0#32
  let c8_i32_72 : BitVec 32 := 8#32
  let v192 : BitVec 32 := Scalar.addi c0_i32_71 c8_i32_72
  let c1_i32_73 : BitVec 32 := 1#32
  ⟨c0_i32_71, v192, c1_i32_73⟩
def k0_mult8 (k0_t3 : Fin k0_t3_loop.trips) : BitVec 32 :=
  let c0_i32_71 : BitVec 32 := 0#32
  let c1_i32_73 : BitVec 32 := 1#32
  let arg15 : BitVec 32 := Scf.iv c0_i32_71 c1_i32_73 k0_t3
  let c32_i32_351 : BitVec 32 := 32#32
  let v1016 : BitVec 32 := Scalar.muli arg15 c32_i32_351
  v1016
def k0_mult9 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_352 : BitVec 32 := 0#32
  let v1018 : BitVec 32 := Scalar.addi v16 c0_i32_352
  v1018
def k0_off2 (k0_t1 : Fin k0_t1_loop.trips) (k0_t3 : Fin k0_t3_loop.trips) (c0_i32_352 : BitVec 32) : Fin 3 → Nat :=
  let c0_353 : Index := 0#32
  let c0_i32_71 : BitVec 32 := 0#32
  let c1_i32_73 : BitVec 32 := 1#32
  let arg15 : BitVec 32 := Scf.iv c0_i32_71 c1_i32_73 k0_t3
  let c32_i32_351 : BitVec 32 := 32#32
  let v1016 : BitVec 32 := Scalar.muli arg15 c32_i32_351
  let v1017 : BitVec 32 := v1016
  let v1020 : Index := Scalar.indexCast v1017
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let v1018 : BitVec 32 := Scalar.addi v16 c0_i32_352
  let v1019 : BitVec 32 := v1018
  let v1021 : Index := Scalar.indexCast v1019
  ![0, v1020.toNat, v1021.toNat]
def k0_mult10 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_355 : BitVec 32 := 128#32
  let v1032 : BitVec 32 := Scalar.addi v16 c128_i32_355
  v1032
def k0_mult11 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32_358 : BitVec 32 := 256#32
  let v1046 : BitVec 32 := Scalar.addi v16 c256_i32_358
  v1046
def k0_mult12 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32_361 : BitVec 32 := 384#32
  let v1060 : BitVec 32 := Scalar.addi v16 c384_i32_361
  v1060
def k0_mult13 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32_364 : BitVec 32 := 512#32
  let v1074 : BitVec 32 := Scalar.addi v16 c512_i32_364
  v1074
def k0_mult14 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_144 : BitVec 32 := 0#32
  let v377 : BitVec 32 := Scalar.addi v16 c0_i32_144
  v377
def k0_off3 (k0_t1 : Fin k0_t1_loop.trips) (c0_i32_144 : BitVec 32) : Fin 2 → Nat :=
  let c0_145 : Index := 0#32
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let v377 : BitVec 32 := Scalar.addi v16 c0_i32_144
  let v378 : BitVec 32 := v377
  let v379 : Index := Scalar.indexCast v378
  ![0, v379.toNat]
def k0_mult15 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_146 : BitVec 32 := 128#32
  let v382 : BitVec 32 := Scalar.addi v16 c128_i32_146
  v382
def k0_mult16 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32 : BitVec 32 := 256#32
  let v387 : BitVec 32 := Scalar.addi v16 c256_i32
  v387
def k0_mult17 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32 : BitVec 32 := 384#32
  let v392 : BitVec 32 := Scalar.addi v16 c384_i32
  v392
def k0_mult18 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32 : BitVec 32 := 512#32
  let v397 : BitVec 32 := Scalar.addi v16 c512_i32
  v397
def k0_mult19 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_156 : BitVec 32 := 0#32
  let v422 : BitVec 32 := Scalar.addi v16 c0_i32_156
  v422
def k0_mult20 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_159 : BitVec 32 := 128#32
  let v429 : BitVec 32 := Scalar.addi v16 c128_i32_159
  v429
def k0_mult21 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32_162 : BitVec 32 := 256#32
  let v436 : BitVec 32 := Scalar.addi v16 c256_i32_162
  v436
def k0_mult22 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32_165 : BitVec 32 := 384#32
  let v443 : BitVec 32 := Scalar.addi v16 c384_i32_165
  v443
def k0_mult23 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32_168 : BitVec 32 := 512#32
  let v450 : BitVec 32 := Scalar.addi v16 c512_i32_168
  v450
@[reducible] def k0_t4_loop : Scf.Loop 32 :=
  let c0_i32_171 : BitVec 32 := 0#32
  let c8_i32_172 : BitVec 32 := 8#32
  let v457 : BitVec 32 := Scalar.addi c0_i32_171 c8_i32_172
  let c1_i32_173 : BitVec 32 := 1#32
  ⟨c0_i32_171, v457, c1_i32_173⟩
def k0_mult24 (k0_t4 : Fin k0_t4_loop.trips) : BitVec 32 :=
  let c0_i32_171 : BitVec 32 := 0#32
  let c1_i32_173 : BitVec 32 := 1#32
  let arg15 : BitVec 32 := Scf.iv c0_i32_171 c1_i32_173 k0_t4
  let c32_i32_351 : BitVec 32 := 32#32
  let v1016 : BitVec 32 := Scalar.muli arg15 c32_i32_351
  v1016
def k0_mult25 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_352 : BitVec 32 := 0#32
  let v1018 : BitVec 32 := Scalar.addi v16 c0_i32_352
  v1018
def k0_off4 (k0_t1 : Fin k0_t1_loop.trips) (k0_t4 : Fin k0_t4_loop.trips) (c0_i32_352 : BitVec 32) : Fin 3 → Nat :=
  let c0_353 : Index := 0#32
  let c0_i32_171 : BitVec 32 := 0#32
  let c1_i32_173 : BitVec 32 := 1#32
  let arg15 : BitVec 32 := Scf.iv c0_i32_171 c1_i32_173 k0_t4
  let c32_i32_351 : BitVec 32 := 32#32
  let v1016 : BitVec 32 := Scalar.muli arg15 c32_i32_351
  let v1017 : BitVec 32 := v1016
  let v1020 : Index := Scalar.indexCast v1017
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let v1018 : BitVec 32 := Scalar.addi v16 c0_i32_352
  let v1019 : BitVec 32 := v1018
  let v1021 : Index := Scalar.indexCast v1019
  ![0, v1020.toNat, v1021.toNat]
def k0_mult26 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_357 : BitVec 32 := 0#32
  let v1041 : BitVec 32 := Scalar.addi v16 c0_i32_357
  v1041
def k0_mult27 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_359 : BitVec 32 := 0#32
  let v1049 : BitVec 32 := Scalar.addi v16 c0_i32_359
  v1049
def k0_off5 (i : grid0.Coords) (k0_t1 : Fin k0_t1_loop.trips) (k0_t4 : Fin k0_t4_loop.trips) (c0_i32_359 : BitVec 32) : Fin 3 → Nat :=
  let arg0 : BitVec 32 := BitVec.ofNat 32 (i 0).val
  let v1051 : Index := Scalar.indexCast arg0
  let c0_i32_171 : BitVec 32 := 0#32
  let c1_i32_173 : BitVec 32 := 1#32
  let arg15 : BitVec 32 := Scf.iv c0_i32_171 c1_i32_173 k0_t4
  let c32_i32_351 : BitVec 32 := 32#32
  let v1016 : BitVec 32 := Scalar.muli arg15 c32_i32_351
  let v1017 : BitVec 32 := v1016
  let v1052 : Index := Scalar.indexCast v1017
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let v1049 : BitVec 32 := Scalar.addi v16 c0_i32_359
  let v1050 : BitVec 32 := v1049
  let v1053 : Index := Scalar.indexCast v1050
  ![v1051.toNat, v1052.toNat, v1053.toNat]
def k0_mult28 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_362 : BitVec 32 := 128#32
  let v1064 : BitVec 32 := Scalar.addi v16 c128_i32_362
  v1064
def k0_mult29 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_367 : BitVec 32 := 128#32
  let v1087 : BitVec 32 := Scalar.addi v16 c128_i32_367
  v1087
def k0_mult30 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_369 : BitVec 32 := 128#32
  let v1095 : BitVec 32 := Scalar.addi v16 c128_i32_369
  v1095
def k0_mult31 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32_372 : BitVec 32 := 256#32
  let v1110 : BitVec 32 := Scalar.addi v16 c256_i32_372
  v1110
def k0_mult32 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32_377 : BitVec 32 := 256#32
  let v1133 : BitVec 32 := Scalar.addi v16 c256_i32_377
  v1133
def k0_mult33 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32_379 : BitVec 32 := 256#32
  let v1141 : BitVec 32 := Scalar.addi v16 c256_i32_379
  v1141
def k0_mult34 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32_382 : BitVec 32 := 384#32
  let v1156 : BitVec 32 := Scalar.addi v16 c384_i32_382
  v1156
def k0_mult35 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32_387 : BitVec 32 := 384#32
  let v1179 : BitVec 32 := Scalar.addi v16 c384_i32_387
  v1179
def k0_mult36 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32_389 : BitVec 32 := 384#32
  let v1187 : BitVec 32 := Scalar.addi v16 c384_i32_389
  v1187
def k0_mult37 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32_392 : BitVec 32 := 512#32
  let v1202 : BitVec 32 := Scalar.addi v16 c512_i32_392
  v1202
def k0_mult38 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32_397 : BitVec 32 := 512#32
  let v1225 : BitVec 32 := Scalar.addi v16 c512_i32_397
  v1225
def k0_mult39 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32_399 : BitVec 32 := 512#32
  let v1233 : BitVec 32 := Scalar.addi v16 c512_i32_399
  v1233
def k0_mult40 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_175 : BitVec 32 := 0#32
  let v484 : BitVec 32 := Scalar.addi v16 c0_i32_175
  v484
def k0_off6 (k0_t1 : Fin k0_t1_loop.trips) (c0_i32_175 : BitVec 32) : Fin 2 → Nat :=
  let c0_176 : Index := 0#32
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let v484 : BitVec 32 := Scalar.addi v16 c0_i32_175
  let v485 : BitVec 32 := v484
  let v486 : Index := Scalar.indexCast v485
  ![0, v486.toNat]
def k0_mult41 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_178 : BitVec 32 := 0#32
  let v493 : BitVec 32 := Scalar.addi v16 c0_i32_178
  v493
def k0_mult42 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_181 : BitVec 32 := 128#32
  let v502 : BitVec 32 := Scalar.addi v16 c128_i32_181
  v502
def k0_mult43 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_184 : BitVec 32 := 128#32
  let v511 : BitVec 32 := Scalar.addi v16 c128_i32_184
  v511
def k0_mult44 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32_187 : BitVec 32 := 256#32
  let v520 : BitVec 32 := Scalar.addi v16 c256_i32_187
  v520
def k0_mult45 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32_190 : BitVec 32 := 256#32
  let v529 : BitVec 32 := Scalar.addi v16 c256_i32_190
  v529
def k0_mult46 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32_193 : BitVec 32 := 384#32
  let v538 : BitVec 32 := Scalar.addi v16 c384_i32_193
  v538
def k0_mult47 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32_196 : BitVec 32 := 384#32
  let v547 : BitVec 32 := Scalar.addi v16 c384_i32_196
  v547
def k0_mult48 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32_199 : BitVec 32 := 512#32
  let v556 : BitVec 32 := Scalar.addi v16 c512_i32_199
  v556
def k0_mult49 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32_202 : BitVec 32 := 512#32
  let v565 : BitVec 32 := Scalar.addi v16 c512_i32_202
  v565
@[reducible] def k0_t5_loop : Scf.Loop 32 :=
  let c0_i32_345 : BitVec 32 := 0#32
  let c8_i32_346 : BitVec 32 := 8#32
  let v1011 : BitVec 32 := Scalar.addi c0_i32_345 c8_i32_346
  let c1_i32_347 : BitVec 32 := 1#32
  ⟨c0_i32_345, v1011, c1_i32_347⟩
def k0_mult50 (k0_t5 : Fin k0_t5_loop.trips) : BitVec 32 :=
  let c0_i32_345 : BitVec 32 := 0#32
  let c1_i32_347 : BitVec 32 := 1#32
  let arg15 : BitVec 32 := Scf.iv c0_i32_345 c1_i32_347 k0_t5
  let c32_i32_351 : BitVec 32 := 32#32
  let v1016 : BitVec 32 := Scalar.muli arg15 c32_i32_351
  v1016
def k0_mult51 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_352 : BitVec 32 := 0#32
  let v1018 : BitVec 32 := Scalar.addi v16 c0_i32_352
  v1018
def k0_off7 (k0_t1 : Fin k0_t1_loop.trips) (k0_t5 : Fin k0_t5_loop.trips) (c0_i32_352 : BitVec 32) : Fin 3 → Nat :=
  let c0_353 : Index := 0#32
  let c0_i32_345 : BitVec 32 := 0#32
  let c1_i32_347 : BitVec 32 := 1#32
  let arg15 : BitVec 32 := Scf.iv c0_i32_345 c1_i32_347 k0_t5
  let c32_i32_351 : BitVec 32 := 32#32
  let v1016 : BitVec 32 := Scalar.muli arg15 c32_i32_351
  let v1017 : BitVec 32 := v1016
  let v1020 : Index := Scalar.indexCast v1017
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let v1018 : BitVec 32 := Scalar.addi v16 c0_i32_352
  let v1019 : BitVec 32 := v1018
  let v1021 : Index := Scalar.indexCast v1019
  ![0, v1020.toNat, v1021.toNat]
def k0_mult52 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_354 : BitVec 32 := 0#32
  let v1028 : BitVec 32 := Scalar.addi v16 c0_i32_354
  v1028
def k0_off8 (i : grid0.Coords) (k0_t1 : Fin k0_t1_loop.trips) (k0_t5 : Fin k0_t5_loop.trips) (c0_i32_354 : BitVec 32) : Fin 3 → Nat :=
  let arg0 : BitVec 32 := BitVec.ofNat 32 (i 0).val
  let v1030 : Index := Scalar.indexCast arg0
  let c0_i32_345 : BitVec 32 := 0#32
  let c1_i32_347 : BitVec 32 := 1#32
  let arg15 : BitVec 32 := Scf.iv c0_i32_345 c1_i32_347 k0_t5
  let c32_i32_351 : BitVec 32 := 32#32
  let v1016 : BitVec 32 := Scalar.muli arg15 c32_i32_351
  let v1017 : BitVec 32 := v1016
  let v1031 : Index := Scalar.indexCast v1017
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let v1028 : BitVec 32 := Scalar.addi v16 c0_i32_354
  let v1029 : BitVec 32 := v1028
  let v1032 : Index := Scalar.indexCast v1029
  ![v1030.toNat, v1031.toNat, v1032.toNat]
def k0_mult53 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c0_i32_355 : BitVec 32 := 0#32
  let v1042 : BitVec 32 := Scalar.addi v16 c0_i32_355
  v1042
def k0_mult54 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_357 : BitVec 32 := 128#32
  let v1054 : BitVec 32 := Scalar.addi v16 c128_i32_357
  v1054
def k0_mult55 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_359 : BitVec 32 := 128#32
  let v1064 : BitVec 32 := Scalar.addi v16 c128_i32_359
  v1064
def k0_mult56 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c128_i32_360 : BitVec 32 := 128#32
  let v1078 : BitVec 32 := Scalar.addi v16 c128_i32_360
  v1078
def k0_mult57 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32_362 : BitVec 32 := 256#32
  let v1090 : BitVec 32 := Scalar.addi v16 c256_i32_362
  v1090
def k0_mult58 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32_364 : BitVec 32 := 256#32
  let v1100 : BitVec 32 := Scalar.addi v16 c256_i32_364
  v1100
def k0_mult59 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c256_i32_365 : BitVec 32 := 256#32
  let v1114 : BitVec 32 := Scalar.addi v16 c256_i32_365
  v1114
def k0_mult60 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32_367 : BitVec 32 := 384#32
  let v1126 : BitVec 32 := Scalar.addi v16 c384_i32_367
  v1126
def k0_mult61 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32_369 : BitVec 32 := 384#32
  let v1136 : BitVec 32 := Scalar.addi v16 c384_i32_369
  v1136
def k0_mult62 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c384_i32_370 : BitVec 32 := 384#32
  let v1150 : BitVec 32 := Scalar.addi v16 c384_i32_370
  v1150
def k0_mult63 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32_372 : BitVec 32 := 512#32
  let v1162 : BitVec 32 := Scalar.addi v16 c512_i32_372
  v1162
def k0_mult64 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32_374 : BitVec 32 := 512#32
  let v1172 : BitVec 32 := Scalar.addi v16 c512_i32_374
  v1172
def k0_mult65 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c640_i32 : BitVec 32 := 640#32
  let v15 : BitVec 32 := Scalar.muli arg14 c640_i32
  let v16 : BitVec 32 := v15
  let c512_i32_375 : BitVec 32 := 512#32
  let v1186 : BitVec 32 := Scalar.addi v16 c512_i32_375
  v1186
def k0_cond3 (i : grid0.Coords) : BitVec 1 :=
  let arg0 : BitVec 32 := BitVec.ofNat 32 (i 0).val
  let c20_i32_2 : BitVec 32 := 20#32
  let v6 : BitVec 1 := Scalar.cmpi .sge arg0 c20_i32_2
  let v7 : BitVec 32 := Scalar.extui v6
  let c0_i32_3 : BitVec 32 := 0#32
  let v8 : BitVec 1 := Scalar.cmpi .ne v7 c0_i32_3
  v8

@[reducible] def k0_t6_loop : Scf.Loop 32 :=
  let c0_i32_17 : BitVec 32 := 0#32
  let c8_i32 : BitVec 32 := 8#32
  let v64 : BitVec 32 := Scalar.addi c0_i32_17 c8_i32
  let c1_i32_18 : BitVec 32 := 1#32
  ⟨c0_i32_17, v64, c1_i32_18⟩
def k0_mult66 (k0_t6 : Fin k0_t6_loop.trips) : BitVec 32 :=
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  v65
def k0_off9 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v67 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v68 : Index := Scalar.indexCast v66
  let c0_20 : Index := 0#32
  ![v67.toNat, v68.toNat, 0]
def k0_off10 (k0_t6 : Fin k0_t6_loop.trips) : Fin 3 → Nat :=
  let c0_23 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v78 : Index := Scalar.indexCast v66
  let c0_24 : Index := 0#32
  ![0, v78.toNat, 0]
def k0_off11 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v82 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v83 : Index := Scalar.indexCast v66
  let c128 : Index := 128#32
  ![v82.toNat, v83.toNat, 128]
def k0_off12 (k0_t6 : Fin k0_t6_loop.trips) : Fin 3 → Nat :=
  let c0_27 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v93 : Index := Scalar.indexCast v66
  let c128_28 : Index := 128#32
  ![0, v93.toNat, 128]
def k0_off13 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v97 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v98 : Index := Scalar.indexCast v66
  let c256 : Index := 256#32
  ![v97.toNat, v98.toNat, 256]
def k0_off14 (k0_t6 : Fin k0_t6_loop.trips) : Fin 3 → Nat :=
  let c0_31 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v108 : Index := Scalar.indexCast v66
  let c256_32 : Index := 256#32
  ![0, v108.toNat, 256]
def k0_off15 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v112 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v113 : Index := Scalar.indexCast v66
  let c384 : Index := 384#32
  ![v112.toNat, v113.toNat, 384]
def k0_off16 (k0_t6 : Fin k0_t6_loop.trips) : Fin 3 → Nat :=
  let c0_35 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v123 : Index := Scalar.indexCast v66
  let c384_36 : Index := 384#32
  ![0, v123.toNat, 384]
def k0_off17 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v127 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v128 : Index := Scalar.indexCast v66
  let c512 : Index := 512#32
  ![v127.toNat, v128.toNat, 512]
def k0_off18 (k0_t6 : Fin k0_t6_loop.trips) : Fin 3 → Nat :=
  let c0_39 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v138 : Index := Scalar.indexCast v66
  let c512_40 : Index := 512#32
  ![0, v138.toNat, 512]
def k0_off19 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v142 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v143 : Index := Scalar.indexCast v66
  let c640 : Index := 640#32
  ![v142.toNat, v143.toNat, 640]
def k0_off20 (k0_t6 : Fin k0_t6_loop.trips) : Fin 3 → Nat :=
  let c0_43 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v153 : Index := Scalar.indexCast v66
  let c640_44 : Index := 640#32
  ![0, v153.toNat, 640]
def k0_off21 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v157 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v158 : Index := Scalar.indexCast v66
  let c768 : Index := 768#32
  ![v157.toNat, v158.toNat, 768]
def k0_off22 (k0_t6 : Fin k0_t6_loop.trips) : Fin 3 → Nat :=
  let c0_47 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v168 : Index := Scalar.indexCast v66
  let c768_48 : Index := 768#32
  ![0, v168.toNat, 768]
def k0_off23 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v172 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v173 : Index := Scalar.indexCast v66
  let c896 : Index := 896#32
  ![v172.toNat, v173.toNat, 896]
def k0_off24 (k0_t6 : Fin k0_t6_loop.trips) : Fin 3 → Nat :=
  let c0_51 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v183 : Index := Scalar.indexCast v66
  let c896_52 : Index := 896#32
  ![0, v183.toNat, 896]
def k0_off25 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v187 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v188 : Index := Scalar.indexCast v66
  let c1024 : Index := 1024#32
  ![v187.toNat, v188.toNat, 1024]
def k0_off26 (k0_t6 : Fin k0_t6_loop.trips) : Fin 3 → Nat :=
  let c0_55 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v198 : Index := Scalar.indexCast v66
  let c1024_56 : Index := 1024#32
  ![0, v198.toNat, 1024]
def k0_off27 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v202 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v203 : Index := Scalar.indexCast v66
  let c1152 : Index := 1152#32
  ![v202.toNat, v203.toNat, 1152]
def k0_off28 (k0_t6 : Fin k0_t6_loop.trips) : Fin 3 → Nat :=
  let c0_59 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v213 : Index := Scalar.indexCast v66
  let c1152_60 : Index := 1152#32
  ![0, v213.toNat, 1152]
def k0_off29 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v217 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v218 : Index := Scalar.indexCast v66
  let c1280 : Index := 1280#32
  ![v217.toNat, v218.toNat, 1280]
def k0_off30 (k0_t6 : Fin k0_t6_loop.trips) : Fin 3 → Nat :=
  let c0_63 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v228 : Index := Scalar.indexCast v66
  let c1280_64 : Index := 1280#32
  ![0, v228.toNat, 1280]
def k0_off31 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v232 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v233 : Index := Scalar.indexCast v66
  let c1408 : Index := 1408#32
  ![v232.toNat, v233.toNat, 1408]
def k0_off32 (k0_t6 : Fin k0_t6_loop.trips) : Fin 3 → Nat :=
  let c0_67 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v243 : Index := Scalar.indexCast v66
  let c1408_68 : Index := 1408#32
  ![0, v243.toNat, 1408]
def k0_off33 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v247 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v248 : Index := Scalar.indexCast v66
  let c1536 : Index := 1536#32
  ![v247.toNat, v248.toNat, 1536]
def k0_off34 (k0_t6 : Fin k0_t6_loop.trips) : Fin 3 → Nat :=
  let c0_71 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v258 : Index := Scalar.indexCast v66
  let c1536_72 : Index := 1536#32
  ![0, v258.toNat, 1536]
def k0_off35 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v262 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v263 : Index := Scalar.indexCast v66
  let c1664 : Index := 1664#32
  ![v262.toNat, v263.toNat, 1664]
def k0_off36 (k0_t6 : Fin k0_t6_loop.trips) : Fin 3 → Nat :=
  let c0_75 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v273 : Index := Scalar.indexCast v66
  let c1664_76 : Index := 1664#32
  ![0, v273.toNat, 1664]
def k0_off37 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v277 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v278 : Index := Scalar.indexCast v66
  let c1792 : Index := 1792#32
  ![v277.toNat, v278.toNat, 1792]
def k0_off38 (k0_t6 : Fin k0_t6_loop.trips) : Fin 3 → Nat :=
  let c0_79 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v288 : Index := Scalar.indexCast v66
  let c1792_80 : Index := 1792#32
  ![0, v288.toNat, 1792]
def k0_off39 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v292 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v293 : Index := Scalar.indexCast v66
  let c1920 : Index := 1920#32
  ![v292.toNat, v293.toNat, 1920]
def k0_off40 (k0_t6 : Fin k0_t6_loop.trips) : Fin 3 → Nat :=
  let c0_83 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v303 : Index := Scalar.indexCast v66
  let c1920_84 : Index := 1920#32
  ![0, v303.toNat, 1920]
def k0_off41 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v307 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v308 : Index := Scalar.indexCast v66
  let c2048 : Index := 2048#32
  ![v307.toNat, v308.toNat, 2048]
def k0_off42 (k0_t6 : Fin k0_t6_loop.trips) : Fin 3 → Nat :=
  let c0_87 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v318 : Index := Scalar.indexCast v66
  let c2048_88 : Index := 2048#32
  ![0, v318.toNat, 2048]
def k0_off43 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v322 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v323 : Index := Scalar.indexCast v66
  let c2176 : Index := 2176#32
  ![v322.toNat, v323.toNat, 2176]
def k0_off44 (k0_t6 : Fin k0_t6_loop.trips) : Fin 3 → Nat :=
  let c0_91 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v333 : Index := Scalar.indexCast v66
  let c2176_92 : Index := 2176#32
  ![0, v333.toNat, 2176]
def k0_off45 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v337 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v338 : Index := Scalar.indexCast v66
  let c2304 : Index := 2304#32
  ![v337.toNat, v338.toNat, 2304]
def k0_off46 (k0_t6 : Fin k0_t6_loop.trips) : Fin 3 → Nat :=
  let c0_95 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v348 : Index := Scalar.indexCast v66
  let c2304_96 : Index := 2304#32
  ![0, v348.toNat, 2304]
def k0_off47 (i : grid0.Coords) (k0_t6 : Fin k0_t6_loop.trips) : Fin 3 → Nat :=
  let arg0 : BitVec 32 := BitVec.ofNat 32 (i 0).val
  let c20_i32_16 : BitVec 32 := 20#32
  let v63 : BitVec 32 := Scalar.subi arg0 c20_i32_16
  let v352 : Index := Scalar.indexCast v63
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v353 : Index := Scalar.indexCast v66
  let c2432 : Index := 2432#32
  ![v352.toNat, v353.toNat, 2432]
def k0_off48 (k0_t6 : Fin k0_t6_loop.trips) : Fin 3 → Nat :=
  let c0_99 : Index := 0#32
  let c0_i32_17 : BitVec 32 := 0#32
  let c1_i32_18 : BitVec 32 := 1#32
  let arg14 : BitVec 32 := Scf.iv c0_i32_17 c1_i32_18 k0_t6
  let c32_i32 : BitVec 32 := 32#32
  let v65 : BitVec 32 := Scalar.muli arg14 c32_i32
  let v66 : BitVec 32 := v65
  let v363 : Index := Scalar.indexCast v66
  let c2432_100 : Index := 2432#32
  ![0, v363.toNat, 2432]
def k0_cond4 (i : grid0.Coords) : BitVec 1 :=
  let arg0 : BitVec 32 := BitVec.ofNat 32 (i 0).val
  let c39_i32 : BitVec 32 := 39#32
  let v9 : BitVec 1 := Scalar.cmpi .eq arg0 c39_i32
  let v10 : BitVec 32 := Scalar.extui v9
  let c0_i32_4 : BitVec 32 := 0#32
  let v11 : BitVec 1 := Scalar.cmpi .ne v10 c0_i32_4
  v11

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c20_i32 : BitVec 32 := 20#32
  let v0 : BitVec 32 := Scalar.subi arg0 c20_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2560 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x2560 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_n" => some ((1 / 20480 : ℝ) : EReal)
  | _ => none
-- ==== ReferenceIdeal.lean ====
abbrev S20x256x2560 : Shape := ⟨3, ![20, 256, 2560]⟩
abbrev S2560 : Shape := ⟨1, ![2560]⟩
abbrev S_ : Shape := ⟨0, ![]⟩
abbrev S1 : Shape := ⟨1, ![1]⟩
abbrev S1x2560 : Shape := ⟨2, ![1, 2560]⟩
abbrev S20x256x32x80 : Shape := ⟨4, ![20, 256, 32, 80]⟩
abbrev S20x32 : Shape := ⟨2, ![20, 32]⟩
abbrev S20x1x32x1 : Shape := ⟨4, ![20, 1, 32, 1]⟩
abbrev S1x1x32x80 : Shape := ⟨4, ![1, 1, 32, 80]⟩
abbrev S32x80 : Shape := ⟨2, ![32, 80]⟩

abbrev nBuf : Space → Nat
  | .hbm => 10
  | .vmem => 6
  | .smem => 1
  | _ => 0

abbrev bufTy : (tb : Table) → Fin (tcTables nBuf tb) → BufTy
  | .hbm, ⟨0, _⟩ => ⟨S20x256x2560, .bf16⟩
  | .hbm, ⟨1, _⟩ => ⟨S2560, .f32⟩
  | .hbm, ⟨2, _⟩ => ⟨S2560, .f32⟩
  | .hbm, ⟨3, _⟩ => ⟨S20x256x2560, .fp8e5m2⟩
  | .hbm, ⟨4, _⟩ => ⟨S_, .f32⟩
  | .hbm, ⟨5, _⟩ => ⟨S1, .f32⟩
  | .hbm, ⟨6, _⟩ => ⟨S1x2560, .f32⟩
  | .hbm, ⟨7, _⟩ => ⟨S1x2560, .f32⟩
  | .hbm, ⟨8, _⟩ => ⟨S1x2560, .f32⟩
  | .hbm, ⟨9, _⟩ => ⟨S1x2560, .f32⟩
  | .local _ .vmem, ⟨0, _⟩ => ⟨S20x256x2560, .bf16⟩
  | .local _ .vmem, ⟨1, _⟩ => ⟨S20x256x2560, .fp8e5m2⟩
  | .local _ .vmem, ⟨2, _⟩ => ⟨S1x2560, .f32⟩
  | .local _ .vmem, ⟨3, _⟩ => ⟨S1x2560, .f32⟩
  | .local _ .vmem, ⟨4, _⟩ => ⟨S1x2560, .f32⟩
  | .local _ .vmem, ⟨5, _⟩ => ⟨S1x2560, .f32⟩
  | .local _ .smem, ⟨0, _⟩ => ⟨S1, .f32⟩
  | _, _ => ⟨S20x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x256x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x256x2560 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.FrameKernel.lean ====
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Tactic

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf ΦA)

variable {F : FTy → Type} [FloatOps F]

local notation "𝕄" => MT nD τ sig Unit (Elt F) ℕ (UR sig nD τ) ℕ

abbrev 𝒱₀ : Variants := Variants.none

set_option maxHeartbeats 4000000

/-- Before each trip of the loop over the four groups of channels: the five inputs at the contents they had at entry,
    the four scratch buffers at some contents. -/
abbrev inv_k0_t1 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (k : ℕ) (acc : Unit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f : BufTy.Contents (Elt F) arg10.view.ty, arg10.view.loc (c : Thread nD τ) ↦[arg10.view.set]{fullShare} f) ∗ (∃ f : BufTy.Contents (Elt F) arg11.view.ty, arg11.view.loc (c : Thread nD τ) ↦[arg11.view.set]{fullShare} f) ∗ (∃ f : BufTy.Contents (Elt F) arg12.view.ty, arg12.view.loc (c : Thread nD τ) ↦[arg12.view.set]{fullShare} f) ∗ (∃ f : BufTy.Contents (Elt F) arg13.view.ty, arg13.view.loc (c : Thread nD τ) ↦[arg13.view.set]{fullShare} f))

set_option warn.classDefReducibility false in
/-- One trip of the loop over the groups of channels, whatever the scratch buffers held before it. -/
@[sl_loop] noncomputable def loopInv_k0_t1 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (arg0 : BitVec 32) (k0_h2 : k0_cond2 i = 1#1) (v12 : Elt F .f32) (X2 : BufTy.Contents (Elt F) arg2.view.ty) (X3 : BufTy.Contents (Elt F) arg3.view.ty) (X4 : BufTy.Contents (Elt F) arg4.view.ty) (X5 : BufTy.Contents (Elt F) arg5.view.ty) :
    Cert.Kernel.Gen.LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg0 k0_h2 v12 where
  inv := inv_k0_t1 (F := F) c i arg1 harg1 arg2 harg2 arg3 harg3 arg4 harg4 arg5 harg5 arg6 harg6 arg7 harg7 arg8 harg8 arg9 harg9 arg10 harg10 arg11 harg11 arg12 harg12 arg13 harg13 X2 X3 X4 X5
  step := fun k acc => by
    have hk : k.val < 4 := Nat.lt_of_lt_of_le k.isLt (by decide)
    unfold k0_t1_body
    iintro ⟨H2, H3, H4, H5, ⟨%f10, H10⟩, ⟨%f11, H11⟩, ⟨%f12, H12⟩, ⟨%f13, H13⟩⟩
    sl_exec
    sl_step
    sl_close

theorem cond2_iff (i : grid0.Coords) : k0_cond2 i = 1#1 ↔ (i 0).val < 20 := by
  have h : ∀ n : Fin 40, Scalar.cmpi .ne (Scalar.extui (Scalar.cmpi .slt (BitVec.ofNat 32 n.val) 20#32) : BitVec 32) 0#32 = 1#1 ↔ n.val < 20 := by decide
  exact h (i 0)

theorem cond3_iff (i : grid0.Coords) : k0_cond3 i = 1#1 ↔ ¬(i 0).val < 20 := by
  have h : ∀ n : Fin 40, Scalar.cmpi .ne (Scalar.extui (Scalar.cmpi .sge (BitVec.ofNat 32 n.val) 20#32) : BitVec 32) 0#32 = 1#1 ↔ ¬n.val < 20 := by decide
  exact h (i 0)

theorem cond4_iff (i : grid0.Coords) : k0_cond4 i = 1#1 ↔ (i 0).val = 39 := by
  have h : ∀ n : Fin 40, Scalar.cmpi .ne (Scalar.extui (Scalar.cmpi .eq (BitVec.ofNat 32 n.val) 39#32) : BitVec 32) 0#32 = 1#1 ↔ n.val = 39 := by decide
  exact h (i 0)

theorem cond1_iff (i : grid0.Coords) : Scalar.cmpi .ne (Scalar.extui (Scalar.cmpi .eq (BitVec.ofNat 32 (i 0).val) 0#32) : BitVec 32) 0#32 = 1#1 ↔ (i 0).val = 0 := by
  have h : ∀ n : Fin 40, Scalar.cmpi .ne (Scalar.extui (Scalar.cmpi .eq (BitVec.ofNat 32 n.val) 0#32) : BitVec 32) 0#32 = 1#1 ↔ n.val = 0 := by decide
  exact h (i 0)

/-- The kernel's body on any whole buffers: it leaves the five inputs as they were, and the results and the scratch at
    some contents. -/
theorem kernelRun (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (x1 : Vec F S1 .f32) (x2 : Vec F S1x256x2560 .bf16) (x3 : Vec F S1x256x2560 .fp8e5m2) (x4 : Vec F S1x2560 .f32) (x5 : Vec F S1x2560 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗
        (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ) -∗ K ⟨⟩))
      ⊢ wp frame (wpE (defs₀ (F := F)) 𝒱₀ c none) Set.univ (cc0_gn_silu_bwd i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5
  have h1 := cond1_iff i
  have h2 := cond2_iff i
  have h3 := cond3_iff i
  have h4 := cond4_iff i
  by_cases hz : (i 0).val = 0
  · have c1 := h1.2 hz
    have c2 := h2.2 (by omega)
    have c3 : ¬ k0_cond3 i = 1#1 := fun h => absurd (h3.1 h) (by omega)
    have c4 : ¬ k0_cond4 i = 1#1 := fun h => absurd (h4.1 h) (by omega)
    clear h1 h2 h3 h4
    sl_unfold [cc0_gn_silu_bwd]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl
  by_cases hl : (i 0).val < 20
  · have c1 := fun h => hz (h1.1 h)
    have c2 := h2.2 hl
    have c3 : ¬ k0_cond3 i = 1#1 := fun h => absurd (h3.1 h) (by omega)
    have c4 : ¬ k0_cond4 i = 1#1 := fun h => absurd (h4.1 h) (by omega)
    clear h1 h2 h3 h4
    sl_unfold [cc0_gn_silu_bwd]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl
  have c1 := fun h => hz (h1.1 h)
  have c2 : ¬ k0_cond2 i = 1#1 := fun h => absurd (h2.1 h) hl
  have c3 := h3.2 hl
  by_cases he : (i 0).val = 39
  · have c4 := h4.2 he
    clear h1 h2 h3 h4
    sl_unfold [cc0_gn_silu_bwd]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl
  · have c4 := fun h => he (h4.1 h)
    clear h1 h2 h3 h4
    sl_unfold [cc0_gn_silu_bwd]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl

variable (m : (ℓ : Loc nD τ sig) → Buf (Elt F) ℓ) (ρ : Dev nD → PrngReg)

/-- The pipeline's proof data for the frame: the body leaves an input's buffer as it found it and says nothing of a
    result's. -/
def rdat (c : Dev nD) : RDat τ (Elt F) Unit ℕ (UR sig nD τ) ℕ cfg0 c where
  A w := V m c (Pipeline.arrRef spec0 w)
  after w _ Y X := (cfg0.win w).isOut = false → X = Y
  Φ _ := ΦA spec0 c
  q _ := fullShare
  owed _ := 0

/-- The scratch buffers with the random-number register, each scratch buffer as a whole memref at some contents. -/
theorem scratch_eq (c : Dev nD) : (ΦA spec0 c : sProp 𝕄) = iprop(((∃ d, owns (c : Thread nD τ) (Memref.whole cc0_scratch0) fullShare d)
    ∗ (∃ d, owns (c : Thread nD τ) (Memref.whole cc0_scratch1) fullShare d) ∗ (∃ d, owns (c : Thread nD τ) (Memref.whole cc0_scratch2) fullShare d)
    ∗ (∃ d, owns (c : Thread nD τ) (Memref.whole cc0_scratch3) fullShare d)) ∗ ∃ r, prngReg c r) := by
  unfold ΦA
  rw [scopedRest0_eq]
  simp only [owns_whole]

theorem body_obligation (c : Dev nD) : (rdat (F := F) m c).BodyObligation (defs₀ (F := F)) 𝒱₀ () Set.univ := fun t Y _ => by
  rw [bigSep_W0, bigSep_W0]
  sl_whnfR [defs₀, Defs.onTc]
  rw [show (rdat m c).Φ t.castSucc = ΦA spec0 c from rfl, show (rdat m c).Φ t.succ = ΦA spec0 c from rfl,
    show (rdat m c).owesAt () t.succ = (rdat m c).owesAt () t.castSucc from rfl, scratch_eq]
  iintro ⟨⟨⟨S0, S1, S2, S3⟩, Hp⟩, Ho, H0, H1, H2, H3, H4, H5, H6, H7, H8⟩
  iapply (kernelRun c _ _ _ _ _ _ _ _ _ _ _ _ _ _ _ _ _ _ _ _ _ _ _ _ _ _ _ (Y 0) (Y 1) (Y 2) (Y 3) (Y 4))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [S0]; · iexact S0
  isplitl [S1]; · iexact S1
  isplitl [S2]; · iexact S2
  isplitl [S3]; · iexact S3
  iintro ⟨H0, H1, H2, H3, H4, ⟨%d5, H5⟩, ⟨%d6, H6⟩, ⟨%d7, H7⟩, ⟨%d8, H8⟩, S0, S1, S2, S3⟩
  isplitl [S0 S1 S2 S3 Hp]
  · isplitl [S0 S1 S2 S3]
    · isplitl [S0]; · iexact S0
      isplitl [S1]; · iexact S1
      isplitl [S2]; · iexact S2
      iexact S3
    iexact Hp
  isplitl [Ho]; · iexact Ho
  isplitl [H0]; · iexists _; isplitr; · ipureintro; exact fun _ => rfl
                  iexact H0
  isplitl [H1]; · iexists _; isplitr; · ipureintro; exact fun _ => rfl
                  iexact H1
  isplitl [H2]; · iexists _; isplitr; · ipureintro; exact fun _ => rfl
                  iexact H2
  isplitl [H3]; · iexists _; isplitr; · ipureintro; exact fun _ => rfl
                  iexact H3
  isplitl [H4]; · iexists _; isplitr; · ipureintro; exact fun _ => rfl
                  iexact H4
  isplitl [H5]; · iexists d5; isplitr; · ipureintro; exact fun h => nomatch h
                  iexact H5
  isplitl [H6]; · iexists d6; isplitr; · ipureintro; exact fun h => nomatch h
                  iexact H6
  isplitl [H7]; · iexists d7; isplitr; · ipureintro; exact fun h => nomatch h
                  iexact H7
  iexists d8; isplitr; · ipureintro; exact fun h => nomatch h
  iexact H8

set_option backward.isDefEq.respectTransparency.types false in
/-- From any memory with zero counters the launch terminates, every input array ends as it was and the counters at zero. -/
theorem run_main : θ_run defs (onTc (τ := τ) (main (F := F))) (s₀ m ρ)
    (fun r => RDat.FramePost cfg0 (rdat m) (V m) r ∧ r.2.sem = fun _ => 0) :=
  RDat.θ_run_frame (Q' := _) cfgs (0 : Fin 1) launch0 defs₀ 𝒱₀ (rdat m) m ρ main
    (hbody := body_obligation m) (hshare := fun c w => by unfold RDat.share; split <;> rfl)
    (howed := fun _ _ => rfl) (V := V m) (hmain := hmain m 𝒱₀) (hA := fun _ _ => rfl) (hΦ := fun _ _ => rfl)

/-- Every launch terminates with the five argument arrays unchanged and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
      ((congrFun ((rdat m c).ArrAt_in 1 rfl cfg0.N) _).mp ((h.1 c).1 1)).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((congrFun ((rdat m c).ArrAt_in 2 rfl cfg0.N) _).mp ((h.1 c).1 2)).trans (V_main_arg3 m c),
      ((h.1 c).2 main_arg4 (Pipeline.mem_restRefs_of main_arg4 (by decide) (by decide))).trans (V_main_arg4 m c)⟩, h.2⟩)
    (run_main m ρ)

end Cert.Proof.Kernel

end
-- ==== Proof.FrameKernelIdeal.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf ΦA)

local notation "𝕄" => MT nD τ sig Unit (Elt Ideal) ℕ (UR sig nD τ) ℕ

abbrev 𝒱₀ : Variants := Variants.none

set_option maxHeartbeats 2000000

/-- Before each trip of the loop over the four groups of channels: the five inputs at the contents they had at entry,
    the four scratch buffers at some contents. -/
abbrev inv_k0_t1 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (k : ℕ) (acc : Unit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f : BufTy.Contents (Elt Ideal) arg10.view.ty, arg10.view.loc (c : Thread nD τ) ↦[arg10.view.set]{fullShare} f) ∗ (∃ f : BufTy.Contents (Elt Ideal) arg11.view.ty, arg11.view.loc (c : Thread nD τ) ↦[arg11.view.set]{fullShare} f) ∗ (∃ f : BufTy.Contents (Elt Ideal) arg12.view.ty, arg12.view.loc (c : Thread nD τ) ↦[arg12.view.set]{fullShare} f) ∗ (∃ f : BufTy.Contents (Elt Ideal) arg13.view.ty, arg13.view.loc (c : Thread nD τ) ↦[arg13.view.set]{fullShare} f))

/-! The generated invariants of the five inner loops, at the extended reals. -/

@[sl_loop, instance_reducible] noncomputable def loop_k0_t2 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (k0_h2 : k0_cond2 i = 1#1) (k0_t1 : Fin k0_t1_loop.trips) (v16 : BitVec 32) (X_arg2 : BufTy.Contents (Elt Ideal) arg2.view.ty) (init : FVec Ideal S8x128 .f32 × FVec Ideal S8x128 .f32 × FVec Ideal S8x128 .f32 × FVec Ideal S8x128 .f32 × FVec Ideal S8x128 .f32) :=
  Gen.loopInv_k0_t2 (F := Ideal) 𝒱₀ c none Set.univ i arg1 harg1 arg2 harg2 arg3 harg3 arg4 harg4 arg5 harg5 arg6 harg6 arg7 harg7 arg8 harg8 arg9 harg9 arg10 harg10 arg11 harg11 arg12 harg12 arg13 harg13 k0_h2 0#32 1#32 k0_t1 v16 X_arg2 init

@[sl_loop, instance_reducible] noncomputable def loop_k0_t3 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (k0_h2 : k0_cond2 i = 1#1) (k0_t1 : Fin k0_t1_loop.trips) (v16 : BitVec 32) (v169 : FVec Ideal S8x128 .f32) (v172 : FVec Ideal S8x128 .f32) (v178 : FVec Ideal S8x128 .f32) (v181 : FVec Ideal S8x128 .f32) (v183 : FVec Ideal S8x128 .f32) (X_arg2 : BufTy.Contents (Elt Ideal) arg2.view.ty) (init : FVec Ideal S8x128 .f32 × FVec Ideal S8x128 .f32 × FVec Ideal S8x128 .f32 × FVec Ideal S8x128 .f32 × FVec Ideal S8x128 .f32) :=
  Gen.loopInv_k0_t3 (F := Ideal) 𝒱₀ c none Set.univ i arg1 harg1 arg2 harg2 arg3 harg3 arg4 harg4 arg5 harg5 arg6 harg6 arg7 harg7 arg8 harg8 arg9 harg9 arg10 harg10 arg11 harg11 arg12 harg12 arg13 harg13 k0_h2 k0_t1 v16 (fun _ => (0 : EReal)) (fun _ => (0 : EReal)) (fun _ => (0 : EReal)) (fun _ => (0 : EReal)) (fun _ => (0 : EReal)) v169 v172 v178 v181 v183 X_arg2 init

@[sl_loop, instance_reducible] noncomputable def loop_k0_t4 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (arg0 : BitVec 32) (k0_h2 : k0_cond2 i = 1#1) (k0_t1 : Fin k0_t1_loop.trips) (v16 : BitVec 32) (v183 : FVec Ideal S8x128 .f32) (v185 : FVec Ideal S8x128 .f32) (v187 : FVec Ideal S8x128 .f32) (v189 : FVec Ideal S8x128 .f32) (v191 : FVec Ideal S8x128 .f32) (v405 : FVec Ideal S1x128 .f32) (v409 : FVec Ideal S1x128 .f32) (v413 : FVec Ideal S1x128 .f32) (v417 : FVec Ideal S1x128 .f32) (v421 : FVec Ideal S1x128 .f32) (v428 : FVec Ideal S1x128 .f32) (v435 : FVec Ideal S1x128 .f32) (v442 : FVec Ideal S1x128 .f32) (v446 : Vec Ideal S1x128 .f32) (v453 : Vec Ideal S1x128 .f32) (X_arg2 : BufTy.Contents (Elt Ideal) arg2.view.ty) (X_arg3 : BufTy.Contents (Elt Ideal) arg3.view.ty) (G_arg10 : BufTy.Contents (Elt Ideal) arg10.view.ty) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32) :=
  Gen.loopInv_k0_t4 (F := Ideal) 𝒱₀ c none Set.univ i arg1 harg1 arg2 harg2 arg3 harg3 arg4 harg4 arg5 harg5 arg6 harg6 arg7 harg7 arg8 harg8 arg9 harg9 arg10 harg10 arg11 harg11 arg12 harg12 arg13 harg13 arg0 k0_h2 (0 : EReal) k0_t1 v16 (fun _ => (0 : EReal)) (fun _ => (0 : EReal)) (fun _ => (0 : EReal)) (fun _ => (0 : EReal)) (fun _ => (0 : EReal)) v183 v185 v187 v189 v191 (fun _ => (0 : EReal)) (fun _ => (0 : EReal)) (fun _ => (0 : EReal)) (fun _ => (0 : EReal)) (fun _ => (0 : EReal)) v405 v409 v413 v417 v421 v428 v435 v442 v446 v453 X_arg2 X_arg3 G_arg10 init

@[sl_loop, instance_reducible] noncomputable def loop_k0_t5 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (arg0 : BitVec 32) (k0_h2 : k0_cond2 i = 1#1) (k0_t1 : Fin k0_t1_loop.trips) (v16 : BitVec 32) (v183 : FVec Ideal S8x128 .f32) (v185 : FVec Ideal S8x128 .f32) (v187 : FVec Ideal S8x128 .f32) (v189 : FVec Ideal S8x128 .f32) (v191 : FVec Ideal S8x128 .f32) (v933 : FVec Ideal S1x128 .f32) (v937 : FVec Ideal S1x128 .f32) (v941 : FVec Ideal S1x128 .f32) (v945 : FVec Ideal S1x128 .f32) (v949 : FVec Ideal S1x128 .f32) (v956 : FVec Ideal S1x128 .f32) (v963 : FVec Ideal S1x128 .f32) (v970 : FVec Ideal S1x128 .f32) (v977 : FVec Ideal S1x128 .f32) (v984 : FVec Ideal S1x128 .f32) (v989 : FVec Ideal S1x128 .f32) (v994 : FVec Ideal S1x128 .f32) (v999 : FVec Ideal S1x128 .f32) (v1004 : FVec Ideal S1x128 .f32) (v1009 : FVec Ideal S1x128 .f32) (X_arg2 : BufTy.Contents (Elt Ideal) arg2.view.ty) (G_arg10 : BufTy.Contents (Elt Ideal) arg10.view.ty) (init : Vec Ideal S8x128 .f32) :=
  Gen.loopInv_k0_t5 (F := Ideal) 𝒱₀ c none Set.univ i arg1 harg1 arg2 harg2 arg3 harg3 arg4 harg4 arg5 harg5 arg6 harg6 arg7 harg7 arg8 harg8 arg9 harg9 arg10 harg10 arg11 harg11 arg12 harg12 arg13 harg13 arg0 k0_h2 k0_t1 v16 v183 v185 v187 v189 v191 v933 v937 v941 v945 v949 v956 v963 v970 v977 v984 v989 v994 v999 v1004 v1009 X_arg2 G_arg10 init

@[sl_loop, instance_reducible] noncomputable def loop_k0_t6 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (k0_h3 : k0_cond3 i = 1#1) (v49 : IVec S8x128 32) (v55 : IVec S8x128 32) (v63 : BitVec 32) (X_arg10 : BufTy.Contents (Elt Ideal) arg10.view.ty) (G_arg6 : BufTy.Contents (Elt Ideal) arg6.view.ty) :=
  Gen.loopInv_k0_t6 (F := Ideal) 𝒱₀ c none Set.univ i arg1 harg1 arg2 harg2 arg3 harg3 arg4 harg4 arg5 harg5 arg6 harg6 arg7 harg7 arg8 harg8 arg9 harg9 arg10 harg10 arg11 harg11 arg12 harg12 arg13 harg13 k0_h3 v49 v55 v63 X_arg10 G_arg6

set_option warn.classDefReducibility false in
/-- One trip of the loop over the groups of channels, whatever the scratch buffers held before it. -/
@[sl_loop] noncomputable def loopInv_k0_t1 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (arg0 : BitVec 32) (k0_h2 : k0_cond2 i = 1#1) (v12 : Elt Ideal .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) :
    Cert.KernelIdeal.Gen.LoopInvTy_k0_t1 (F := Ideal) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg0 k0_h2 v12 where
  inv := inv_k0_t1 c i arg1 harg1 arg2 harg2 arg3 harg3 arg4 harg4 arg5 harg5 arg6 harg6 arg7 harg7 arg8 harg8 arg9 harg9 arg10 harg10 arg11 harg11 arg12 harg12 arg13 harg13 X2 X3 X4 X5
  step := fun k acc => by
    have hk : k.val < 4 := Nat.lt_of_lt_of_le k.isLt (by decide)
    unfold k0_t1_body
    iintro ⟨H2, H3, H4, H5, ⟨%f10, H10⟩, ⟨%f11, H11⟩, ⟨%f12, H12⟩, ⟨%f13, H13⟩⟩
    sl_exec
    sl_step
    sl_close

theorem cond2_iff (i : grid0.Coords) : k0_cond2 i = 1#1 ↔ (i 0).val < 20 := by
  have h : ∀ n : Fin 40, Scalar.cmpi .ne (Scalar.extui (Scalar.cmpi .slt (BitVec.ofNat 32 n.val) 20#32) : BitVec 32) 0#32 = 1#1 ↔ n.val < 20 := by decide
  exact h (i 0)

theorem cond3_iff (i : grid0.Coords) : k0_cond3 i = 1#1 ↔ ¬(i 0).val < 20 := by
  have h : ∀ n : Fin 40, Scalar.cmpi .ne (Scalar.extui (Scalar.cmpi .sge (BitVec.ofNat 32 n.val) 20#32) : BitVec 32) 0#32 = 1#1 ↔ ¬n.val < 20 := by decide
  exact h (i 0)

theorem cond4_iff (i : grid0.Coords) : k0_cond4 i = 1#1 ↔ (i 0).val = 39 := by
  have h : ∀ n : Fin 40, Scalar.cmpi .ne (Scalar.extui (Scalar.cmpi .eq (BitVec.ofNat 32 n.val) 39#32) : BitVec 32) 0#32 = 1#1 ↔ n.val = 39 := by decide
  exact h (i 0)

theorem cond1_iff (i : grid0.Coords) : Scalar.cmpi .ne (Scalar.extui (Scalar.cmpi .eq (BitVec.ofNat 32 (i 0).val) 0#32) : BitVec 32) 0#32 = 1#1 ↔ (i 0).val = 0 := by
  have h : ∀ n : Fin 40, Scalar.cmpi .ne (Scalar.extui (Scalar.cmpi .eq (BitVec.ofNat 32 n.val) 0#32) : BitVec 32) 0#32 = 1#1 ↔ n.val = 0 := by decide
  exact h (i 0)

/-- The kernel's body on any whole buffers: it leaves the five inputs as they were, and the results and the scratch at
    some contents. -/
theorem kernelRun (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (x1 : Vec Ideal S1 .f32) (x2 : Vec Ideal S1x256x2560 .bf16) (x3 : Vec Ideal S1x256x2560 .fp8e5m2) (x4 : Vec Ideal S1x2560 .f32) (x5 : Vec Ideal S1x2560 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗
        (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ) -∗ K ⟨⟩))
      ⊢ wp frame (wpE (defs₀ (F := Ideal)) 𝒱₀ c none) Set.univ (cc0_gn_silu_bwd i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5
  have h1 := cond1_iff i
  have h2 := cond2_iff i
  have h3 := cond3_iff i
  have h4 := cond4_iff i
  by_cases hz : (i 0).val = 0
  · have c1 := h1.2 hz
    have c2 := h2.2 (by omega)
    have c3 : ¬ k0_cond3 i = 1#1 := fun h => absurd (h3.1 h) (by omega)
    have c4 : ¬ k0_cond4 i = 1#1 := fun h => absurd (h4.1 h) (by omega)
    clear h1 h2 h3 h4
    sl_unfold [cc0_gn_silu_bwd]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl
  by_cases hl : (i 0).val < 20
  · have c1 := fun h => hz (h1.1 h)
    have c2 := h2.2 hl
    have c3 : ¬ k0_cond3 i = 1#1 := fun h => absurd (h3.1 h) (by omega)
    have c4 : ¬ k0_cond4 i = 1#1 := fun h => absurd (h4.1 h) (by omega)
    clear h1 h2 h3 h4
    sl_unfold [cc0_gn_silu_bwd]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl
  have c1 := fun h => hz (h1.1 h)
  have c2 : ¬ k0_cond2 i = 1#1 := fun h => absurd (h2.1 h) hl
  have c3 := h3.2 hl
  by_cases he : (i 0).val = 39
  · have c4 := h4.2 he
    clear h1 h2 h3 h4
    sl_unfold [cc0_gn_silu_bwd]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl
  · have c4 := fun h => he (h4.1 h)
    clear h1 h2 h3 h4
    sl_unfold [cc0_gn_silu_bwd]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl

variable (m : (ℓ : Loc nD τ sig) → Buf (Elt Ideal) ℓ) (ρ : Dev nD → PrngReg)

/-- The pipeline's proof data for the frame: the body leaves an input's buffer as it found it and says nothing of a
    result's. -/
def rdat (c : Dev nD) : RDat τ (Elt Ideal) Unit ℕ (UR sig nD τ) ℕ cfg0 c where
  A w := V m c (Pipeline.arrRef spec0 w)
  after w _ Y X := (cfg0.win w).isOut = false → X = Y
  Φ _ := ΦA spec0 c
  q _ := fullShare
  owed _ := 0

/-- The scratch buffers with the random-number register, each scratch buffer as a whole memref at some contents. -/
theorem scratch_eq (c : Dev nD) : (ΦA spec0 c : sProp 𝕄) = iprop(((∃ d, owns (c : Thread nD τ) (Memref.whole cc0_scratch0) fullShare d)
    ∗ (∃ d, owns (c : Thread nD τ) (Memref.whole cc0_scratch1) fullShare d) ∗ (∃ d, owns (c : Thread nD τ) (Memref.whole cc0_scratch2) fullShare d)
    ∗ (∃ d, owns (c : Thread nD τ) (Memref.whole cc0_scratch3) fullShare d)) ∗ ∃ r, prngReg c r) := by
  unfold ΦA
  rw [scopedRest0_eq]
  simp only [owns_whole]

theorem body_obligation (c : Dev nD) : (rdat m c).BodyObligation (defs₀ (F := Ideal)) 𝒱₀ () Set.univ := fun t Y _ => by
  rw [bigSep_W0, bigSep_W0]
  sl_whnfR [defs₀, Defs.onTc]
  rw [show (rdat m c).Φ t.castSucc = ΦA spec0 c from rfl, show (rdat m c).Φ t.succ = ΦA spec0 c from rfl,
    show (rdat m c).owesAt () t.succ = (rdat m c).owesAt () t.castSucc from rfl, scratch_eq]
  iintro ⟨⟨⟨S0, S1, S2, S3⟩, Hp⟩, Ho, H0, H1, H2, H3, H4, H5, H6, H7, H8⟩
  iapply (kernelRun c _ _ _ _ _ _ _ _ _ _ _ _ _ _ _ _ _ _ _ _ _ _ _ _ _ _ _ (Y 0) (Y 1) (Y 2) (Y 3) (Y 4))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [S0]; · iexact S0
  isplitl [S1]; · iexact S1
  isplitl [S2]; · iexact S2
  isplitl [S3]; · iexact S3
  iintro ⟨H0, H1, H2, H3, H4, ⟨%d5, H5⟩, ⟨%d6, H6⟩, ⟨%d7, H7⟩, ⟨%d8, H8⟩, S0, S1, S2, S3⟩
  isplitl [S0 S1 S2 S3 Hp]
  · isplitl [S0 S1 S2 S3]
    · isplitl [S0]; · iexact S0
      isplitl [S1]; · iexact S1
      isplitl [S2]; · iexact S2
      iexact S3
    iexact Hp
  isplitl [Ho]; · iexact Ho
  isplitl [H0]; · iexists _; isplitr; · ipureintro; exact fun _ => rfl
                  iexact H0
  isplitl [H1]; · iexists _; isplitr; · ipureintro; exact fun _ => rfl
                  iexact H1
  isplitl [H2]; · iexists _; isplitr; · ipureintro; exact fun _ => rfl
                  iexact H2
  isplitl [H3]; · iexists _; isplitr; · ipureintro; exact fun _ => rfl
                  iexact H3
  isplitl [H4]; · iexists _; isplitr; · ipureintro; exact fun _ => rfl
                  iexact H4
  isplitl [H5]; · iexists d5; isplitr; · ipureintro; exact fun h => nomatch h
                  iexact H5
  isplitl [H6]; · iexists d6; isplitr; · ipureintro; exact fun h => nomatch h
                  iexact H6
  isplitl [H7]; · iexists d7; isplitr; · ipureintro; exact fun h => nomatch h
                  iexact H7
  iexists d8; isplitr; · ipureintro; exact fun h => nomatch h
  iexact H8

set_option backward.isDefEq.respectTransparency.types false in
/-- From any memory with zero counters the launch terminates, every input array ends as it was and the counters at zero. -/
theorem run_main : θ_run defs (onTc (τ := τ) (main (F := Ideal))) (s₀ m ρ)
    (fun r => RDat.FramePost cfg0 (rdat m) (V m) r ∧ r.2.sem = fun _ => 0) :=
  RDat.θ_run_frame (Q' := _) cfgs (0 : Fin 1) launch0 defs₀ 𝒱₀ (rdat m) m ρ main
    (hbody := body_obligation m) (hshare := fun c w => by unfold RDat.share; split <;> rfl)
    (howed := fun _ _ => rfl) (V := V m) (hmain := hmain m 𝒱₀) (hA := fun _ _ => rfl) (hΦ := fun _ _ => rfl)

/-- Every launch terminates with the five argument arrays unchanged and the counters at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
      ((congrFun ((rdat m c).ArrAt_in 1 rfl cfg0.N) _).mp ((h.1 c).1 1)).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((congrFun ((rdat m c).ArrAt_in 2 rfl cfg0.N) _).mp ((h.1 c).1 2)).trans (V_main_arg3 m c),
      ((h.1 c).2 main_arg4 (Pipeline.mem_restRefs_of main_arg4 (by decide) (by decide))).trans (V_main_arg4 m c)⟩, h.2⟩)
    (run_main m ρ)

end Cert.Proof.KernelIdeal

end
-- ==== Proof.Tile.lean ====
module

public import proofs.«01_k».proof.Proof.Gen.KernelIdeal.Skeleton
public import Idealize.ShloMosaic.Lib.Pointwise
public import Idealize.ShloMosaic.Lib.WholeRead
public import Idealize.ShloMosaic.Lib.Tactic

@[expose] public section

noncomputable section

namespace Cert.Proof.KernelIdeal

open Cert.KernelIdeal Cert.KernelIdeal.Gen
open Idealize.ShloMosaic Idealize.ShloMosaic.TcCoe

/-- A block of 8 sublanes by 128 lanes over the extended reals. -/
abbrev T8 := FVec Ideal S8x128 .f32

/-- A block of 32 rows by 128 lanes. -/
abbrev T32 := FVec Ideal S32x128 .f32

/-- Rows `q`, `8 + q`, `16 + q`, `24 + q` of a block added up. -/
def foldT (w : T32) : T8 :=
  multiReduction .add [0] S8x128 (shapeCast S4x8x128 w shapeCasts_S32x128_S4x8x128) 0x00000000#32 reduces_S4x8x128_S8x128 (.inl rfl) rfl

/-- A loaded block of `x`, widened. -/
def xT (L : Vec Ideal S1x32x128 .bf16) : T32 := extf .f32 (shapeCast S32x128 L shapeCasts_S1x32x128_S32x128) bitsLt_bf16_f32

/-- A loaded block of `x` less the mean in the first row of `m`. -/
def xcT (m : T8) (L : Vec Ideal S1x32x128 .bf16) : T32 :=
  subf (xT L) (broadcastTo S32x128 (extractStridedSlice S1x128 ![0, 0] m slices_S8x128_o0_0_S1x128) broadcasts_S1x128_S32x128)

/-- The four sublane tiles of a row block, added. -/
theorem foldT_apply (w : T32) (s : Fin 8) (l : Fin 128) :
    foldT w (ix2 s l) = ∑ q : Fin 4, w (ix2 ⟨8 * q.val + s.val, by omega⟩ l) := by
  pointwise [foldT]
  refine Finset.sum_congr rfl fun q _ => ?_
  congr 3
  omega

/-- One element of `x`. -/
theorem xT_apply (L : Vec Ideal S1x32x128 .bf16) (r : Fin 32) (l : Fin 128) : xT L (ix2 r l) = L (ix3 0 r l) := by
  pointwise [xT]

/-- One centred element. -/
theorem xcT_apply (m : T8) (L : Vec Ideal S1x32x128 .bf16) (r : Fin 32) (l : Fin 128) :
    xcT m L (ix2 r l) = L (ix3 0 r l) - m (ix2 0 l) := by
  pointwise [xcT, xT]

/-- The element of one image at row `r` and channel `ch`. -/
def at3 {e : EltTy} (x : Vec Ideal S1x256x2560 e) (z : Elt Ideal e) (r ch : ℕ) : Elt Ideal e :=
  if h : r < 256 ∧ ch < 2560 then x (ix3 0 ⟨r, h.1⟩ ⟨ch, h.2⟩) else z

/-- A block of 32 rows by 128 channels read out of one image. -/
theorem load_apply {sp : Space} {e : EltTy} {m : Memref sig .tc sp S1x256x2560 e} (hm : m.IsWhole) (x : Vec Ideal S1x256x2560 e) (z : Elt Ideal e)
    {off : Fin 3 → ℕ} (inb : ∀ a, off a + S1x32x128.size a ≤ S1x256x2560.size a) {R C : ℕ} (ho : off = ![0, R, C]) (p : Fin 32) (l : Fin 128) :
    View.readAt (Elt Ideal) m.view (Rect.unit (s := S1x256x2560) off S1x32x128.size inb).toLoadRect (hm.unread x) (ix3 0 p l) = at3 x z (R + p.val) (C + l.val) := by
  subst ho
  have h1 : R + p.val < 256 := by have := inb 1; simp at this; omega
  have h2 : C + l.val < 2560 := by have := inb 2; simp at this; omega
  rw [at3, dif_pos ⟨h1, h2⟩]
  refine (hm.readAt_unread x _ _).trans (congrArg x ?_)
  funext a
  apply Fin.ext
  fin_cases a <;> simp

/-- `init` plus the rows seen in the first `k` groups of 32 rows, each block of 32 rows folded to 8. -/
def rows (g : ℕ → Fin 128 → EReal) : ℕ → T8 → T8
  | 0, init => init
  | k + 1, init => fun y => rows g k init y + ∑ q : Fin 4, g (32 * k + (8 * q.val + (y 0).val)) (y 1)

/-- Row blocks added one after another, at an element. -/
theorem rows_apply (g : ℕ → Fin 128 → EReal) (k : ℕ) (init : T8) (s : Fin 8) (l : Fin 128) :
    rows g k init (ix2 s l) = init (ix2 s l) + ∑ i ∈ Finset.range k, ∑ q : Fin 4, g (32 * i + (8 * q.val + s.val)) l := by
  induction k with
  | zero => simp [rows]
  | succ k ih =>
    rw [Finset.sum_range_succ, ← add_assoc, ← ih]
    rfl

/-- One more row block. -/
theorem rows_succ {g : ℕ → Fin 128 → EReal} {k : ℕ} {init : T8} {w : T32} (hw : ∀ (p : Fin 32) (l : Fin 128), w (ix2 p l) = g (32 * k + p.val) l) :
    addf (rows g k init) (foldT w) = rows g (k + 1) init := by
  funext y
  obtain ⟨s, l, rfl⟩ : ∃ (s : Fin 8) (l : Fin 128), y = ix2 s l := ⟨y 0, y 1, funext fun a => by fin_cases a <;> rfl⟩
  have e : addf (rows g k init) (foldT w) (ix2 s l) = rows g k init (ix2 s l) + foldT w (ix2 s l) := rfl
  rw [e, foldT_apply]
  simp only [hw]
  rfl

/-- `(1 + tanh u) (1 + u (1 - tanh u))`: twice the derivative of `h σ(h)` at `h = 2 u`. -/
def slope (u : EReal) : EReal := (1 + Ideal.tanh u) * (1 + u * (1 - Ideal.tanh u))

/-- The argument of `tanh` on a block of 32 rows. -/
def uT (m : T8) (ua ub : FVec Ideal S1x128 .f32) (L : Vec Ideal S1x32x128 .bf16) : T32 :=
  addf (mulf (xcT m L) (broadcastTo S32x128 ua broadcasts_S1x128_S32x128)) (broadcastTo S32x128 ub broadcasts_S1x128_S32x128)

/-- The incoming gradient times the slope on a block of 32 rows. -/
def dhT (m : T8) (ua ub : FVec Ideal S1x128 .f32) (L : Vec Ideal S1x32x128 .bf16) (D : Vec Ideal S1x32x128 .fp8e5m2) : T32 :=
  mulf (extf .f32 (shapeCast S32x128 D shapeCasts_S1x32x128_S32x128) bitsLt_fp8e5m2_f32)
    (mulf (addf (broadcast S32x128 (Scalar.ofBits .f32 0x3F800000#32)) (tanh (uT m ua ub L)))
      (addf (broadcast S32x128 (Scalar.ofBits .f32 0x3F800000#32))
        (mulf (uT m ua ub L) (subf (broadcast S32x128 (Scalar.ofBits .f32 0x3F800000#32)) (tanh (uT m ua ub L))))))

/-- One element of the unscaled gradient. -/
theorem dhT_apply (m : T8) (ua ub : FVec Ideal S1x128 .f32) (L : Vec Ideal S1x32x128 .bf16) (D : Vec Ideal S1x32x128 .fp8e5m2) (r : Fin 32) (l : Fin 128) :
    dhT m ua ub L D (ix2 r l) = D (ix3 0 r l) * slope ((L (ix3 0 r l) - m (ix2 0 l)) * ua (ix2 0 l) + ub (ix2 0 l)) := by
  pointwise [dhT, uT, xcT, xT]
  simp only [slope]

/-- The sum of `x` over the rows seen so far, tile `j` of chunk `t`. -/
abbrev gx (x2 : Vec Ideal S1x256x2560 .bf16) (t j : ℕ) (r : ℕ) (l : Fin 128) : EReal := at3 x2 0 r (640 * t + 128 * j + l.val)

/-- `x` less its mean. -/
abbrev gxc (x2 : Vec Ideal S1x256x2560 .bf16) (t j : ℕ) (m : T8) (r : ℕ) (l : Fin 128) : EReal := gx x2 t j r l - m (ix2 0 l)

/-- The square of `x` less its mean. -/
abbrev gsq (x2 : Vec Ideal S1x256x2560 .bf16) (t j : ℕ) (m : T8) (r : ℕ) (l : Fin 128) : EReal := gxc x2 t j m r l * gxc x2 t j m r l

/-- The incoming gradient times the slope. -/
abbrev gdh (x2 : Vec Ideal S1x256x2560 .bf16) (x3 : Vec Ideal S1x256x2560 .fp8e5m2) (t j : ℕ) (m : T8) (ua ub : FVec Ideal S1x128 .f32) (r : ℕ) (l : Fin 128) : EReal :=
  at3 x3 (0 : EReal) r (640 * t + 128 * j + l.val) * slope (gxc x2 t j m r l * ua (ix2 0 l) + ub (ix2 0 l))

/-- The same times `x` less its mean. -/
abbrev gdhx (x2 : Vec Ideal S1x256x2560 .bf16) (x3 : Vec Ideal S1x256x2560 .fp8e5m2) (t j : ℕ) (m : T8) (ua ub : FVec Ideal S1x128 .f32) (r : ℕ) (l : Fin 128) : EReal :=
  gdh x2 x3 t j m ua ub r l * gxc x2 t j m r l

/-- One squared element. -/
theorem sq_apply {m : T8} {L : Vec Ideal S1x32x128 .bf16} {p : Fin 32} {l : Fin 128} {a : EReal} (h : xcT m L (ix2 p l) = a) :
    mulf (xcT m L) (xcT m L) (ix2 p l) = a * a := by
  rw [← h]; rfl

/-- One unscaled gradient, from its inputs. -/
theorem dh_at {m : T8} {ua ub : FVec Ideal S1x128 .f32} {L : Vec Ideal S1x32x128 .bf16} {D : Vec Ideal S1x32x128 .fp8e5m2} {p : Fin 32} {l : Fin 128} {a b : EReal}
    (h : L (ix3 0 p l) = a) (h' : D (ix3 0 p l) = b) :
    dhT m ua ub L D (ix2 p l) = b * slope ((a - m (ix2 0 l)) * ua (ix2 0 l) + ub (ix2 0 l)) := by
  rw [dhT_apply, h, h']

/-- One unscaled gradient times the centred element. -/
theorem dhx_at {m : T8} {ua ub : FVec Ideal S1x128 .f32} {L : Vec Ideal S1x32x128 .bf16} {D : Vec Ideal S1x32x128 .fp8e5m2} {p : Fin 32} {l : Fin 128} {a b : EReal}
    (h : L (ix3 0 p l) = a) (h' : D (ix3 0 p l) = b) :
    mulf (dhT m ua ub L D) (xcT m L) (ix2 p l) = b * slope ((a - m (ix2 0 l)) * ua (ix2 0 l) + ub (ix2 0 l)) * (a - m (ix2 0 l)) := by
  have e : mulf (dhT m ua ub L D) (xcT m L) (ix2 p l) = dhT m ua ub L D (ix2 p l) * xcT m L (ix2 p l) := rfl
  rw [e, dhT_apply, xcT_apply, h, h']

end Cert.Proof.KernelIdeal

end
-- ==== Proof.Loops.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Tactic
public import proofs.«01_k».proof.Proof.Tile

@[expose] public section

noncomputable section

namespace Cert.Proof.KernelIdeal.Value

open Cert.KernelIdeal Cert.KernelIdeal.Gen Cert.Proof.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf ΦA)

local notation "𝕄" => MT nD τ sig Unit (Elt Ideal) ℕ (UR sig nD τ) ℕ

/-- The loops use no variant. -/
abbrev 𝒱₀ : Variants := Variants.none

set_option maxHeartbeats 2000000

/-- The loop that sums `x`: before trip `k` each tile holds the sum over the first `32 k` rows. -/
@[sl_loop, instance_reducible] noncomputable def sum_k0_t2 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (k0_h2 : k0_cond2 i = 1#1) (k0_t1 : Fin k0_t1_loop.trips) (v16 : BitVec 32) (x2 : Vec Ideal S1x256x2560 .bf16) (init : T8 × T8 × T8 × T8 × T8) :
    Idealize.ShloMosaic.LoopInv (M := 𝕄) Idealize.ShloMosaic.frame (wpE (defs₀ (F := Ideal)) 𝒱₀ (c : Thread nD τ) none) Set.univ
      k0_t2_loop.lb k0_t2_loop.ub k0_t2_loop.st (k0_t2_ok i k0_h2) init (k0_t2_body (F := Ideal) i arg1 harg1 arg2 harg2 arg3 harg3 arg4 harg4 arg5 harg5 arg6 harg6 arg7 harg7 arg8 harg8 arg9 harg9 arg10 harg10 arg11 harg11 arg12 harg12 arg13 harg13 k0_h2 0#32 1#32 k0_t1 v16) where
  inv := fun k acc => iprop((arg2.view.loc (c : Thread nD τ) ↦[arg2.view.set]{fullShare} harg2.unread x2) ∗
    ⌜acc = (rows (gx x2 k0_t1.val 0) k init.1, rows (gx x2 k0_t1.val 1) k init.2.1, rows (gx x2 k0_t1.val 2) k init.2.2.1, rows (gx x2 k0_t1.val 3) k init.2.2.2.1, rows (gx x2 k0_t1.val 4) k init.2.2.2.2)⌝)
  step := fun k acc => by
    unfold k0_t2_body
    iintro ⟨H2, %h⟩
    subst h
    sl_exec
    sl_step
    isplitl [H2]; · iexact H2
    ipureintro
    sl_unfold_words
    refine Prod.ext ?_ (Prod.ext ?_ (Prod.ext ?_ (Prod.ext ?_ ?_)))
    · exact rows_succ fun p l => (xT_apply _ p l).trans ((load_apply harg2 x2 0 _ (k0_off1_eq k0_t1 k 0) p l).trans rfl)
    · exact rows_succ fun p l => (xT_apply _ p l).trans ((load_apply harg2 x2 0 _ (k0_off1_eq k0_t1 k 1) p l).trans rfl)
    · exact rows_succ fun p l => (xT_apply _ p l).trans ((load_apply harg2 x2 0 _ (k0_off1_eq k0_t1 k 2) p l).trans rfl)
    · exact rows_succ fun p l => (xT_apply _ p l).trans ((load_apply harg2 x2 0 _ (k0_off1_eq k0_t1 k 3) p l).trans rfl)
    · exact rows_succ fun p l => (xT_apply _ p l).trans ((load_apply harg2 x2 0 _ (k0_off1_eq k0_t1 k 4) p l).trans rfl)
/-- The loop that sums the squares of `x` less its mean. -/
@[sl_loop, instance_reducible] noncomputable def sumsq_k0_t3 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (k0_h2 : k0_cond2 i = 1#1) (k0_t1 : Fin k0_t1_loop.trips) (v16 : BitVec 32) (v169 v172 v178 v181 v183 : FVec Ideal S8x128 .f32) (x2 : Vec Ideal S1x256x2560 .bf16) (init : T8 × T8 × T8 × T8 × T8) :
    Idealize.ShloMosaic.LoopInv (M := 𝕄) Idealize.ShloMosaic.frame (wpE (defs₀ (F := Ideal)) 𝒱₀ (c : Thread nD τ) none) Set.univ
      k0_t3_loop.lb k0_t3_loop.ub k0_t3_loop.st (k0_t3_ok i k0_h2) init (k0_t3_body (F := Ideal) i arg1 harg1 arg2 harg2 arg3 harg3 arg4 harg4 arg5 harg5 arg6 harg6 arg7 harg7 arg8 harg8 arg9 harg9 arg10 harg10 arg11 harg11 arg12 harg12 arg13 harg13 k0_h2 k0_t1 v16 (fun _ => (0 : EReal)) (fun _ => (0 : EReal)) (fun _ => (0 : EReal)) (fun _ => (0 : EReal)) (fun _ => (0 : EReal)) v169 v172 v178 v181 v183) where
  inv := fun k acc => iprop((arg2.view.loc (c : Thread nD τ) ↦[arg2.view.set]{fullShare} harg2.unread x2) ∗
    ⌜acc = (rows (gsq x2 k0_t1.val 0 v183) k init.1, rows (gsq x2 k0_t1.val 1 (k0_pay85 v169)) k init.2.1, rows (gsq x2 k0_t1.val 2 (k0_pay86 v172)) k init.2.2.1, rows (gsq x2 k0_t1.val 3 (k0_pay87 v178)) k init.2.2.2.1, rows (gsq x2 k0_t1.val 4 (k0_pay88 v181)) k init.2.2.2.2)⌝)
  step := fun k acc => by
    unfold k0_t3_body
    iintro ⟨H2, %h⟩
    subst h
    sl_exec
    sl_step
    isplitl [H2]; · iexact H2
    ipureintro
    sl_unfold_words
    refine Prod.ext ?_ (Prod.ext ?_ (Prod.ext ?_ (Prod.ext ?_ ?_)))
    · refine rows_succ fun p l => sq_apply (m := v183) ((xcT_apply _ _ p l).trans (congrArg (· - _) ((load_apply harg2 x2 0 _ (k0_off2_eq k0_t1 k 0) p l).trans rfl)))
    · refine rows_succ fun p l => sq_apply (m := (k0_pay85 v169)) ((xcT_apply _ _ p l).trans (congrArg (· - _) ((load_apply harg2 x2 0 _ (k0_off2_eq k0_t1 k 1) p l).trans rfl)))
    · refine rows_succ fun p l => sq_apply (m := (k0_pay86 v172)) ((xcT_apply _ _ p l).trans (congrArg (· - _) ((load_apply harg2 x2 0 _ (k0_off2_eq k0_t1 k 2) p l).trans rfl)))
    · refine rows_succ fun p l => sq_apply (m := (k0_pay87 v178)) ((xcT_apply _ _ p l).trans (congrArg (· - _) ((load_apply harg2 x2 0 _ (k0_off2_eq k0_t1 k 3) p l).trans rfl)))
    · refine rows_succ fun p l => sq_apply (m := (k0_pay88 v181)) ((xcT_apply _ _ p l).trans (congrArg (· - _) ((load_apply harg2 x2 0 _ (k0_off2_eq k0_t1 k 4) p l).trans rfl)))

/-- The loop that sums the gradient of the normalised value, and that times `x` less its mean. -/
@[sl_loop, instance_reducible] noncomputable def sumdh_k0_t4 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (arg0 : BitVec 32) (k0_h2 : k0_cond2 i = 1#1) (k0_t1 : Fin k0_t1_loop.trips) (v16 : BitVec 32) (v183 v185 v187 v189 v191 : FVec Ideal S8x128 .f32) (v405 v409 v413 v417 v421 v428 v435 v442 : FVec Ideal S1x128 .f32) (v446 v453 : Vec Ideal S1x128 .f32) (x2 : Vec Ideal S1x256x2560 .bf16) (x3 : Vec Ideal S1x256x2560 .fp8e5m2) (init : T8 × T8 × T8 × T8 × T8 × T8 × T8 × T8 × T8 × T8) :
    Idealize.ShloMosaic.LoopInv (M := 𝕄) Idealize.ShloMosaic.frame (wpE (defs₀ (F := Ideal)) 𝒱₀ (c : Thread nD τ) none) Set.univ
      k0_t4_loop.lb k0_t4_loop.ub k0_t4_loop.st (k0_t4_ok i k0_h2) init (k0_t4_body (F := Ideal) i arg1 harg1 arg2 harg2 arg3 harg3 arg4 harg4 arg5 harg5 arg6 harg6 arg7 harg7 arg8 harg8 arg9 harg9 arg10 harg10 arg11 harg11 arg12 harg12 arg13 harg13 arg0 k0_h2 (0 : EReal) k0_t1 v16 (fun _ => (0 : EReal)) (fun _ => (0 : EReal)) (fun _ => (0 : EReal)) (fun _ => (0 : EReal)) (fun _ => (0 : EReal)) v183 v185 v187 v189 v191 (fun _ => (0 : EReal)) (fun _ => (0 : EReal)) (fun _ => (0 : EReal)) (fun _ => (0 : EReal)) (fun _ => (0 : EReal)) v405 v409 v413 v417 v421 v428 v435 v442 v446 v453) where
  inv := fun k acc => iprop((arg2.view.loc (c : Thread nD τ) ↦[arg2.view.set]{fullShare} harg2.unread x2) ∗
    (arg3.view.loc (c : Thread nD τ) ↦[arg3.view.set]{fullShare} harg3.unread x3) ∗
    (∃ Z, arg10.view.loc (c : Thread nD τ) ↦[arg10.view.set]{fullShare} Z) ∗
    ⌜acc = (rows (gdh x2 x3 k0_t1.val 0 v183 v405 v428) k init.1, rows (gdhx x2 x3 k0_t1.val 0 v183 v405 v428) k init.2.1, rows (gdh x2 x3 k0_t1.val 1 v185 v409 v435) k init.2.2.1, rows (gdhx x2 x3 k0_t1.val 1 v185 v409 v435) k init.2.2.2.1, rows (gdh x2 x3 k0_t1.val 2 v187 v413 v442) k init.2.2.2.2.1, rows (gdhx x2 x3 k0_t1.val 2 v187 v413 v442) k init.2.2.2.2.2.1, rows (gdh x2 x3 k0_t1.val 3 v189 v417 (k0_pay131 v446)) k init.2.2.2.2.2.2.1, rows (gdhx x2 x3 k0_t1.val 3 v189 v417 (k0_pay131 v446)) k init.2.2.2.2.2.2.2.1, rows (gdh x2 x3 k0_t1.val 4 v191 v421 (k0_pay131 v453)) k init.2.2.2.2.2.2.2.2.1, rows (gdhx x2 x3 k0_t1.val 4 v191 v421 (k0_pay131 v453)) k init.2.2.2.2.2.2.2.2.2)⌝)
  step := fun k acc => by
    unfold k0_t4_body
    iintro ⟨H2, H3, ⟨%Z, H10⟩, %h⟩
    subst h
    sl_exec
    sl_step
    isplitl [H2]; · iexact H2
    isplitl [H3]; · iexact H3
    isplitl [H10]; · iexists _; iexact H10
    ipureintro
    sl_unfold_words
    refine (Prod.ext ?_ (Prod.ext ?_ (Prod.ext ?_ (Prod.ext ?_ (Prod.ext ?_ (Prod.ext ?_ (Prod.ext ?_ (Prod.ext ?_ (Prod.ext ?_ ?_)))))))))
    · exact rows_succ fun p l => dh_at (m := v183) (ua := v405) (ub := v428) (load_apply harg2 x2 0 _ (k0_off4_eq k0_t1 k 0) p l) (load_apply harg3 x3 (0 : EReal) _ (k0_off4_eq k0_t1 k 0) p l)
    · exact rows_succ fun p l => dhx_at (m := v183) (ua := v405) (ub := v428) (load_apply harg2 x2 0 _ (k0_off4_eq k0_t1 k 0) p l) (load_apply harg3 x3 (0 : EReal) _ (k0_off4_eq k0_t1 k 0) p l)
    · exact rows_succ fun p l => dh_at (m := v185) (ua := v409) (ub := v435) (load_apply harg2 x2 0 _ (k0_off4_eq k0_t1 k 1) p l) (load_apply harg3 x3 (0 : EReal) _ (k0_off4_eq k0_t1 k 1) p l)
    · exact rows_succ fun p l => dhx_at (m := v185) (ua := v409) (ub := v435) (load_apply harg2 x2 0 _ (k0_off4_eq k0_t1 k 1) p l) (load_apply harg3 x3 (0 : EReal) _ (k0_off4_eq k0_t1 k 1) p l)
    · exact rows_succ fun p l => dh_at (m := v187) (ua := v413) (ub := v442) (load_apply harg2 x2 0 _ (k0_off4_eq k0_t1 k 2) p l) (load_apply harg3 x3 (0 : EReal) _ (k0_off4_eq k0_t1 k 2) p l)
    · exact rows_succ fun p l => dhx_at (m := v187) (ua := v413) (ub := v442) (load_apply harg2 x2 0 _ (k0_off4_eq k0_t1 k 2) p l) (load_apply harg3 x3 (0 : EReal) _ (k0_off4_eq k0_t1 k 2) p l)
    · exact rows_succ fun p l => dh_at (m := v189) (ua := v417) (ub := (k0_pay131 v446)) (load_apply harg2 x2 0 _ (k0_off4_eq k0_t1 k 3) p l) (load_apply harg3 x3 (0 : EReal) _ (k0_off4_eq k0_t1 k 3) p l)
    · exact rows_succ fun p l => dhx_at (m := v189) (ua := v417) (ub := (k0_pay131 v446)) (load_apply harg2 x2 0 _ (k0_off4_eq k0_t1 k 3) p l) (load_apply harg3 x3 (0 : EReal) _ (k0_off4_eq k0_t1 k 3) p l)
    · exact rows_succ fun p l => dh_at (m := v191) (ua := v421) (ub := (k0_pay131 v453)) (load_apply harg2 x2 0 _ (k0_off4_eq k0_t1 k 4) p l) (load_apply harg3 x3 (0 : EReal) _ (k0_off4_eq k0_t1 k 4) p l)
    · exact rows_succ fun p l => dhx_at (m := v191) (ua := v421) (ub := (k0_pay131 v453)) (load_apply harg2 x2 0 _ (k0_off4_eq k0_t1 k 4) p l) (load_apply harg3 x3 (0 : EReal) _ (k0_off4_eq k0_t1 k 4) p l)

@[sl_loop, instance_reducible] noncomputable def loop_k0_t5 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (arg0 : BitVec 32) (k0_h2 : k0_cond2 i = 1#1) (k0_t1 : Fin k0_t1_loop.trips) (v16 : BitVec 32) (v183 : FVec Ideal S8x128 .f32) (v185 : FVec Ideal S8x128 .f32) (v187 : FVec Ideal S8x128 .f32) (v189 : FVec Ideal S8x128 .f32) (v191 : FVec Ideal S8x128 .f32) (v933 : FVec Ideal S1x128 .f32) (v937 : FVec Ideal S1x128 .f32) (v941 : FVec Ideal S1x128 .f32) (v945 : FVec Ideal S1x128 .f32) (v949 : FVec Ideal S1x128 .f32) (v956 : FVec Ideal S1x128 .f32) (v963 : FVec Ideal S1x128 .f32) (v970 : FVec Ideal S1x128 .f32) (v977 : FVec Ideal S1x128 .f32) (v984 : FVec Ideal S1x128 .f32) (v989 : FVec Ideal S1x128 .f32) (v994 : FVec Ideal S1x128 .f32) (v999 : FVec Ideal S1x128 .f32) (v1004 : FVec Ideal S1x128 .f32) (v1009 : FVec Ideal S1x128 .f32) (X_arg2 : BufTy.Contents (Elt Ideal) arg2.view.ty) (G_arg10 : BufTy.Contents (Elt Ideal) arg10.view.ty) (init : Vec Ideal S8x128 .f32) :=
  Gen.loopInv_k0_t5 (F := Ideal) 𝒱₀ c none Set.univ i arg1 harg1 arg2 harg2 arg3 harg3 arg4 harg4 arg5 harg5 arg6 harg6 arg7 harg7 arg8 harg8 arg9 harg9 arg10 harg10 arg11 harg11 arg12 harg12 arg13 harg13 arg0 k0_h2 k0_t1 v16 v183 v185 v187 v189 v191 v933 v937 v941 v945 v949 v956 v963 v970 v977 v984 v989 v994 v999 v1004 v1009 X_arg2 G_arg10 init

@[sl_loop, instance_reducible] noncomputable def loop_k0_t6 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (k0_h3 : k0_cond3 i = 1#1) (v49 : IVec S8x128 32) (v55 : IVec S8x128 32) (v63 : BitVec 32) (X_arg10 : BufTy.Contents (Elt Ideal) arg10.view.ty) (G_arg6 : BufTy.Contents (Elt Ideal) arg6.view.ty) :=
  Gen.loopInv_k0_t6 (F := Ideal) 𝒱₀ c none Set.univ i arg1 harg1 arg2 harg2 arg3 harg3 arg4 harg4 arg5 harg5 arg6 harg6 arg7 harg7 arg8 harg8 arg9 harg9 arg10 harg10 arg11 harg11 arg12 harg12 arg13 harg13 k0_h3 v49 v55 v63 X_arg10 G_arg6

end Cert.Proof.KernelIdeal.Value

end
-- ==== Proof.GroupSum.lean ====
module

public import proofs.«01_k».proof.Proof.Tile
public import Idealize.ShloMosaic.Lib.Pointwise
public import Idealize.ShloMosaic.Lib.WordCmp

@[expose] public section

noncomputable section

namespace Cert.Proof.KernelIdeal

open Cert.KernelIdeal Cert.KernelIdeal.Gen
open Idealize.ShloMosaic Idealize.ShloMosaic.TcCoe

/-- The lane number of each element. -/
abbrev lanes : IVec S8x128 32 := iota .tc S8x128 32 [1] iota_S8x128_d1_w32

/-- `v` on the lanes from `lo` up to `hi`, zero elsewhere. -/
def mask (lo hi : BitVec 32) (v : T8) : T8 :=
  select (andi (cmpi .sge lanes (broadcast S8x128 lo)) (cmpi .slt lanes (broadcast S8x128 hi))) v
    (broadcast S8x128 (Scalar.ofBits .f32 0x00000000#32))

/-- The sum of all elements, at every element. -/
def total (v : T8) : T8 :=
  broadcastTo S8x128 (shapeCast S1x1 (shapeCast S1x1 (multiReduction .add [0] S1 (shapeCast S8x1 (multiReduction .add [1] S8 v 0x00000000#32 reduces_S8x128_S8 (.inl rfl) rfl) shapeCasts_S8_S8x1)
    0x00000000#32 reduces_S8x1_S1 (.inl rfl) rfl) shapeCasts_S1_S1x1) shapeCasts_S1x1_S1x1) broadcasts_S1x1_S8x128

/-- `a` on the lanes from `lo` on, `b` before them. -/
def pick (lo : BitVec 32) (a b : T8) : T8 :=
  select (cmpi .sge lanes (broadcast S8x128 lo)) a b

/-- A tile's total, at an element. -/
theorem total_apply (v : T8) (s : Fin 8) (l : Fin 128) : total v (ix2 s l) = ∑ s' : Fin 8, ∑ l' : Fin 128, v (ix2 s' l') := by
  pointwise [total]

/-- A signed comparison of a lane from below. -/
theorem sge_iff {l : ℕ} (hl : l < 128) {lo : BitVec 32} (hlo : lo.toNat ≤ 128) :
    IntOp.cmpi .sge (BitVec.ofNat 32 l) lo = 1#1 ↔ lo.toNat ≤ l := by
  have e : lo = BitVec.ofNat 32 lo.toNat := by simp
  rw [e]
  exact WordCmp.cmpi_sge_ofNat_eq_one_iff (by omega) (by simp; omega) |>.trans (by simp)

/-- A signed comparison of a lane from above. -/
theorem slt_iff {l : ℕ} (hl : l < 128) {hi : BitVec 32} (hhi : hi.toNat ≤ 128) :
    IntOp.cmpi .slt (BitVec.ofNat 32 l) hi = 1#1 ↔ l < hi.toNat := by
  have e : hi = BitVec.ofNat 32 hi.toNat := by simp
  rw [e]
  exact WordCmp.cmpi_slt_ofNat_eq_one_iff (by omega) (by simp; omega) |>.trans (by simp)

/-- A lane mask, at an element. -/
theorem mask_apply (lo hi : BitVec 32) (hlo : lo.toNat ≤ 128) (hhi : hi.toNat ≤ 128) (v : T8) (s : Fin 8) (l : Fin 128) :
    mask lo hi v (ix2 s l) = if lo.toNat ≤ l.val ∧ l.val < hi.toNat then v (ix2 s l) else 0 := by
  pointwise [mask]
  have h : ∀ a b : BitVec 1, IntOp.andi a b = 1#1 ↔ a = 1#1 ∧ b = 1#1 := by decide
  refine if_congr ?_ rfl rfl
  exact (h _ _).trans (and_congr (sge_iff l.isLt hlo) (slt_iff l.isLt hhi))

/-- A choice between two tiles by lane, at an element. -/
theorem pick_apply (lo : BitVec 32) (hlo : lo.toNat ≤ 128) (a b : T8) (s : Fin 8) (l : Fin 128) :
    pick lo a b (ix2 s l) = if lo.toNat ≤ l.val then a (ix2 s l) else b (ix2 s l) := by
  pointwise [pick]
  exact if_congr (sge_iff l.isLt hlo) rfl rfl

/-- Channel `p` of the five tiles laid side by side, its 8 sublanes added up. -/
def chan (f : ℕ → T8) (p : ℕ) : EReal := ∑ s : Fin 8, f (p / 128) (ix2 s ⟨p % 128, Nat.mod_lt _ (by norm_num)⟩)

/-- A masked tile adds up to the sum over the channels the mask keeps. -/
theorem total_mask (f : ℕ → T8) (j : ℕ) (lo hi : BitVec 32) (hlo : lo.toNat ≤ 128) (hhi : hi.toNat ≤ 128) (s : Fin 8) (l : Fin 128) :
    total (mask lo hi (f j)) (ix2 s l) = ∑ p ∈ Finset.Ico (128 * j + lo.toNat) (128 * j + hi.toNat), chan f p := by
  rw [total_apply, Finset.sum_comm]
  simp only [mask_apply lo hi hlo hhi]
  have e : ∀ l' : Fin 128, (∑ s' : Fin 8, if lo.toNat ≤ l'.val ∧ l'.val < hi.toNat then f j (ix2 s' l') else 0)
      = if lo.toNat ≤ l'.val ∧ l'.val < hi.toNat then chan f (128 * j + l'.val) else 0 := by
    intro l'
    split
    · have h1 : (128 * j + l'.val) / 128 = j := by omega
      have h2 : (128 * j + l'.val) % 128 = l'.val := by omega
      simp only [chan, h1, h2]
    · simp
  rw [Finset.sum_congr rfl fun l' _ => e l', Fin.sum_univ_eq_sum_range (fun a => if lo.toNat ≤ a ∧ a < hi.toNat then chan f (128 * j + a) else 0) 128,
    ← Finset.sum_filter]
  refine Finset.sum_bij (fun a _ => 128 * j + a) ?_ ?_ ?_ ?_
  · intro a ha; simp at ha ⊢; omega
  · intro a _ b _ h; simpa using h
  · intro b hb
    simp at hb
    exact ⟨b - 128 * j, by simp; omega, by omega⟩
  · intro a _; rfl

/-- The total of a sum of tiles. -/
theorem addf_total (a b : T8) (s : Fin 8) (l : Fin 128) : total (addf a b) (ix2 s l) = total a (ix2 s l) + total b (ix2 s l) := by
  simp only [total_apply, ← Finset.sum_add_distrib]
  rfl

/-- The eight group totals of five tiles, each group 80 channels wide. -/
def g0 (v0 : T8) : T8 := total (mask 0#32 80#32 v0)
def g1 (v0 v1 : T8) : T8 := total (addf (mask 80#32 128#32 v0) (mask 0#32 32#32 v1))
def g2 (v1 : T8) : T8 := total (mask 32#32 112#32 v1)
def g3 (v1 v2 : T8) : T8 := total (addf (mask 112#32 128#32 v1) (mask 0#32 64#32 v2))
def g4 (v2 v3 : T8) : T8 := total (addf (mask 64#32 128#32 v2) (mask 0#32 16#32 v3))
def g5 (v3 : T8) : T8 := total (mask 16#32 96#32 v3)
def g6 (v3 v4 : T8) : T8 := total (addf (mask 96#32 128#32 v3) (mask 0#32 48#32 v4))
def g7 (v4 : T8) : T8 := total (mask 48#32 128#32 v4)

/-- The group total of every channel, tile by tile. -/
def o0 (v0 v1 : T8) : T8 := pick 80#32 (g1 v0 v1) (g0 v0)
def o1 (v0 v1 v2 : T8) : T8 := pick 112#32 (g3 v1 v2) (pick 32#32 (g2 v1) (g1 v0 v1))
def o2 (v1 v2 v3 : T8) : T8 := pick 64#32 (g4 v2 v3) (g3 v1 v2)
def o3 (v2 v3 v4 : T8) : T8 := pick 96#32 (g6 v3 v4) (pick 16#32 (g5 v3) (g4 v2 v3))
def o4 (v3 v4 : T8) : T8 := pick 48#32 (g7 v4) (g6 v3 v4)

/-- Group totals of the tiles `f 0` … `f 4`, as tile `j`. -/
def grp (f : ℕ → T8) (j : ℕ) : T8 :=
  match j with
  | 0 => o0 (f 0) (f 1)
  | 1 => o1 (f 0) (f 1) (f 2)
  | 2 => o2 (f 1) (f 2) (f 3)
  | 3 => o3 (f 2) (f 3) (f 4)
  | _ => o4 (f 3) (f 4)

/-- The total of group `g`. -/
def gsum (f : ℕ → T8) (g : ℕ) : EReal := ∑ p ∈ Finset.Ico (80 * g) (80 * g + 80), chan f p

variable (f : ℕ → T8) (s : Fin 8) (l : Fin 128)

/-- The sum of a group that lies across two neighbouring tiles. -/
theorem two (j j' : ℕ) (a b c d : BitVec 32) (ha : a.toNat ≤ 128) (hb : b.toNat ≤ 128) (hc : c.toNat ≤ 128) (hd : d.toNat ≤ 128)
    (e1 : 128 * j + b.toNat = 128 * j' + c.toNat) (h1 : a.toNat ≤ b.toNat) (h2 : c.toNat ≤ d.toNat) :
    total (addf (mask a b (f j)) (mask c d (f j'))) (ix2 s l) = ∑ p ∈ Finset.Ico (128 * j + a.toNat) (128 * j' + d.toNat), chan f p := by
  rw [addf_total, total_mask f j a b ha hb, total_mask f j' c d hc hd, e1]
  exact Finset.sum_Ico_consecutive _ (by omega) (by omega)

/-- The first group's sum. -/
theorem g0_apply : g0 (f 0) (ix2 s l) = gsum f 0 := total_mask f 0 0#32 80#32 (by decide) (by decide) s l
theorem g1_apply : g1 (f 0) (f 1) (ix2 s l) = gsum f 1 := two f s l 0 1 80#32 128#32 0#32 32#32 (by decide) (by decide) (by decide) (by decide) (by decide) (by decide) (by decide)
theorem g2_apply : g2 (f 1) (ix2 s l) = gsum f 2 := total_mask f 1 32#32 112#32 (by decide) (by decide) s l
theorem g3_apply : g3 (f 1) (f 2) (ix2 s l) = gsum f 3 := two f s l 1 2 112#32 128#32 0#32 64#32 (by decide) (by decide) (by decide) (by decide) (by decide) (by decide) (by decide)
theorem g4_apply : g4 (f 2) (f 3) (ix2 s l) = gsum f 4 := two f s l 2 3 64#32 128#32 0#32 16#32 (by decide) (by decide) (by decide) (by decide) (by decide) (by decide) (by decide)
theorem g5_apply : g5 (f 3) (ix2 s l) = gsum f 5 := total_mask f 3 16#32 96#32 (by decide) (by decide) s l
theorem g6_apply : g6 (f 3) (f 4) (ix2 s l) = gsum f 6 := two f s l 3 4 96#32 128#32 0#32 48#32 (by decide) (by decide) (by decide) (by decide) (by decide) (by decide) (by decide)
theorem g7_apply : g7 (f 4) (ix2 s l) = gsum f 7 := total_mask f 4 48#32 128#32 (by decide) (by decide) s l

/-- Every channel of tile `j` holds the total of its own group. -/
theorem grp_apply (j : ℕ) (hj : j < 5) : grp f j (ix2 s l) = gsum f ((128 * j + l.val) / 80) := by
  have hl := l.isLt
  interval_cases j
  · simp only [grp, o0]
    rw [pick_apply _ (by decide), g0_apply, g1_apply]
    simp only [BitVec.toNat_ofNat]
    split <;> congr 1 <;> omega
  · simp only [grp, o1]
    rw [pick_apply _ (by decide), pick_apply _ (by decide), g1_apply, g2_apply, g3_apply]
    simp only [BitVec.toNat_ofNat]
    split <;> (try split) <;> congr 1 <;> omega
  · simp only [grp, o2]
    rw [pick_apply _ (by decide), g3_apply, g4_apply]
    simp only [BitVec.toNat_ofNat]
    split <;> congr 1 <;> omega
  · simp only [grp, o3]
    rw [pick_apply _ (by decide), pick_apply _ (by decide), g4_apply, g5_apply, g6_apply]
    simp only [BitVec.toNat_ofNat]
    split <;> (try split) <;> congr 1 <;> omega
  · simp only [grp, o4]
    rw [pick_apply _ (by decide), g6_apply, g7_apply]
    simp only [BitVec.toNat_ofNat]
    split <;> congr 1 <;> omega

end Cert.Proof.KernelIdeal

end
-- ==== Proof.Spec.lean ====
module

public import proofs.«01_k».proof.Proof.Tile
public import proofs.«01_k».proof.Proof.GroupSum
public import Idealize.ShloMosaic.Lib.WritesUnit

@[expose] public section

noncomputable section

namespace Cert.Proof.KernelIdeal

open Cert.KernelIdeal Cert.KernelIdeal.Gen
open Idealize.ShloMosaic Idealize.ShloMosaic.TcCoe

/-- One row of 128 lanes. -/
abbrev T1 := FVec Ideal S1x128 .f32

/-- Zero everywhere. -/
def zeroT : T8 := broadcast S8x128 (Scalar.ofBits .f32 0x00000000#32)

/-- The reciprocal of the number of elements of a group, everywhere. -/
def invT : T8 := broadcast S8x128 (Named.named κ "inv_n" 0x384CCCCD#32)

section Chunk

variable (x2 : Vec Ideal S1x256x2560 .bf16) (x3 : Vec Ideal S1x256x2560 .fp8e5m2) (t j : ℕ)

/-- The mean of each channel's group, tile `j` of chunk `t`. -/
def meanT : T8 := mulf (grp (fun j => rows (gx x2 t j) 8 zeroT) j) invT

/-- The reciprocal standard deviation of each channel's group. -/
def rstdT : T8 :=
  rsqrt (addf (mulf (grp (fun j => rows (gsq x2 t j (meanT x2 t j)) 8 zeroT) j) invT) (broadcast S8x128 (Scalar.ofBits .f32 0x3727C5AC#32)))

/-- What multiplies `x` less its mean inside `tanh`. -/
def uaT (gam : T1) : T1 :=
  mulf (mulf (broadcast S1x128 (Scalar.ofBits .f32 0x3F000000#32)) (extractStridedSlice S1x128 ![0, 0] (rstdT x2 t j) slices_S8x128_o0_0_S1x128))
    (shapeCast S1x128 gam shapeCasts_S1x128_S1x128)

/-- What is added inside `tanh`. -/
def ubT (bet : T1) : T1 := mulf (broadcast S1x128 (Scalar.ofBits .f32 0x3F000000#32)) (shapeCast S1x128 bet shapeCasts_S1x128_S1x128)

/-- The part of the gradient of `beta` due to this image. -/
def dbT (gam bet : T1) (v12 : EReal) : T8 :=
  mulf (broadcast S8x128 (k0_pay4 v12)) (rows (gdh x2 x3 t j (meanT x2 t j) (uaT x2 t j gam) (ubT bet)) 8 zeroT)

/-- The part of the gradient of `gamma` due to this image. -/
def dgT (gam bet : T1) (v12 : EReal) : T8 :=
  mulf (mulf (broadcast S8x128 (k0_pay4 v12)) (rstdT x2 t j)) (rows (gdhx x2 x3 t j (meanT x2 t j) (uaT x2 t j gam) (ubT bet)) 8 zeroT)

end Chunk

/-- The element of a row of 2560 channels. -/
def at1 (x : Vec Ideal S1x2560 .f32) (ch : ℕ) : EReal := if h : ch < 2560 then x (ix2 0 ⟨ch, h⟩) else 0

/-- Tile `j` of chunk `t` of a row of 2560 channels. -/
def rowT (x : Vec Ideal S1x2560 .f32) (t j : ℕ) : T1 := fun y => at1 x (640 * t + 128 * j + (y 1).val)

/-- A loaded tile of a row of channels. -/
theorem rowT_eq {sp : Space} {m : Memref sig .tc sp S1x2560 .f32} (hm : m.IsWhole) (x : Vec Ideal S1x2560 .f32)
    {off : Fin 2 → ℕ} (inb : ∀ a, off a + S1x128.size a ≤ S1x2560.size a) {t j : ℕ} (ho : off = ![0, 640 * t + 128 * j]) :
    View.readAt (Elt Ideal) m.view (Rect.unit (s := S1x2560) off S1x128.size inb).toLoadRect (hm.unread x) = rowT x t j := by
  subst ho
  funext y
  have h2 : 640 * t + 128 * j + (y 1).val < 2560 := by have := inb 1; have := (y 1).isLt; simp at *; omega
  refine (hm.readAt_unread x _ _).trans ?_
  rw [rowT, at1, dif_pos h2]
  refine congrArg x ?_
  funext a
  apply Fin.ext
  fin_cases a
  · have := (y 0).isLt; simp at this ⊢; exact this
  · simp

/-- A running sum over sublanes and channels with one chunk's tiles added to it. -/
def addChunk (X : Vec Ideal S8x2560 .f32) (t : ℕ) (T : ℕ → T8) : Vec Ideal S8x2560 .f32 := fun y =>
  if 640 * t ≤ (y 1).val ∧ (y 1).val < 640 * t + 640 then
    X y + T (((y 1).val - 640 * t) / 128) (ix2 (y 0) ⟨((y 1).val - 640 * t) % 128, Nat.mod_lt _ (by norm_num)⟩)
  else X y

/-- A tile with the old contents added to it. -/
def addTile (L T : T8) : T8 := shapeCast S8x128 (addf L T) shapeCasts_S8x128_S8x128

/-- A sum of two tiles, at an element. -/
theorem addTile_apply (L T : T8) (s : Fin 8) (l : Fin 128) : addTile L T (ix2 s l) = L (ix2 s l) + T (ix2 s l) := by
  pointwise [addTile]

/-- A loaded tile of an accumulator, at an element. -/
theorem load8_apply {sp : Space} {m : Memref sig .tc sp S8x2560 .f32} (hm : m.IsWhole) (X : Vec Ideal S8x2560 .f32)
    {off : Fin 2 → ℕ} (inb : ∀ a, off a + S8x128.size a ≤ S8x2560.size a) {C : ℕ} (ho : off = ![0, C]) (s : Fin 8) (l : Fin 128) (y : S8x2560.Idx)
    (h0 : (y 0).val = s.val) (h1 : (y 1).val = C + l.val) :
    View.readAt (Elt Ideal) m.view (Rect.unit (s := S8x2560) off S8x128.size inb).toLoadRect (hm.unread X) (ix2 s l) = X y := by
  subst ho
  refine (hm.readAt_unread X _ _).trans (congrArg X ?_)
  funext a
  apply Fin.ext
  fin_cases a <;> simp [h0, h1]

section Step

variable {sp : Space} {m : Memref sig .tc sp S8x2560 .f32} (hm : m.IsWhole) (X : Vec Ideal S8x2560 .f32) (t : ℕ) (T : ℕ → T8)
  {o0 o1 o2 o3 o4 : Fin 2 → ℕ}
  (i0 : ∀ a, o0 a + S8x128.size a ≤ S8x2560.size a) (i1 : ∀ a, o1 a + S8x128.size a ≤ S8x2560.size a) (i2 : ∀ a, o2 a + S8x128.size a ≤ S8x2560.size a)
  (i3 : ∀ a, o3 a + S8x128.size a ≤ S8x2560.size a) (i4 : ∀ a, o4 a + S8x128.size a ≤ S8x2560.size a)
  {w0 w1 w2 w3 w4 : T8}

/-- What a tile of a chunk holds once its sum is stored. -/
theorem tile_read {o : Fin 2 → ℕ} (i : ∀ a, o a + S8x128.size a ≤ S8x2560.size a) (j : ℕ) (hj : j < 5) (ho : o = ![0, 640 * t + 128 * j]) {w : T8}
    (hw : w = addTile (View.readAt (Elt Ideal) m.view (Rect.unit (s := S8x2560) o S8x128.size i).toLoadRect (hm.unread X)) (T j))
    (y : S8x2560.Idx) (s : Fin 8) (l : Fin 128) (h0 : (y 0).val = s.val) (h1 : (y 1).val = 640 * t + 128 * j + l.val) :
    w (ix2 s l) = addChunk X t T y := by
  have hl := l.isLt
  rw [hw, addTile_apply, load8_apply hm X i ho s l y h0 h1, addChunk, if_pos (by omega)]
  have e1 : ((y 1).val - 640 * t) / 128 = j := by omega
  have e2 : ((y 1).val - 640 * t) % 128 = l.val := by omega
  have e3 : y 0 = s := Fin.ext h0
  simp only [e1, e2, e3]

/-- Storing the five tiles of a chunk adds them to the running sum. -/
theorem writes_chunk (e0 : o0 = ![0, 640 * t + 128 * 0]) (e1 : o1 = ![0, 640 * t + 128 * 1]) (e2 : o2 = ![0, 640 * t + 128 * 2])
    (e3 : o3 = ![0, 640 * t + 128 * 3]) (e4 : o4 = ![0, 640 * t + 128 * 4])
    (h0 : w0 = addTile (View.readAt (Elt Ideal) m.view (Rect.unit (s := S8x2560) o0 S8x128.size i0).toLoadRect (hm.unread X)) (T 0))
    (h1 : w1 = addTile (View.readAt (Elt Ideal) m.view (Rect.unit (s := S8x2560) o1 S8x128.size i1).toLoadRect (hm.unread X)) (T 1))
    (h2 : w2 = addTile (View.readAt (Elt Ideal) m.view (Rect.unit (s := S8x2560) o2 S8x128.size i2).toLoadRect (hm.unread X)) (T 2))
    (h3 : w3 = addTile (View.readAt (Elt Ideal) m.view (Rect.unit (s := S8x2560) o3 S8x128.size i3).toLoadRect (hm.unread X)) (T 3))
    (h4 : w4 = addTile (View.readAt (Elt Ideal) m.view (Rect.unit (s := S8x2560) o4 S8x128.size i4).toLoadRect (hm.unread X)) (T 4)) :
    m.view.writes (Elt Ideal) (hm.unread X) [⟨Rect.unit o4 S8x128.size i4, w4⟩, ⟨Rect.unit o3 S8x128.size i3, w3⟩, ⟨Rect.unit o2 S8x128.size i2, w2⟩,
      ⟨Rect.unit o1 S8x128.size i1, w1⟩, ⟨Rect.unit o0 S8x128.size i0, w0⟩] = hm.unread (addChunk X t T) := by
  refine hm.eq_unread (funext fun y => ?_)
  have hs : (y 0).val < 8 := (y 0).isLt
  by_cases c4 : 640 * t + 512 ≤ (y 1).val ∧ (y 1).val < 640 * t + 640
  · refine (View.read_writes_cons_unit_of_mem (Val := Elt Ideal) m.view _ i4 w4 _ y (ix2 (y 0) ⟨(y 1).val - (640 * t + 512), by omega⟩) e4 (by
      intro a; fin_cases a <;> simp; omega)).trans ?_
    exact tile_read hm X t T i4 4 (by omega) e4 h4 y _ _ rfl (by simp; omega)
  refine (View.read_writes_cons_unit_of_not_mem (Val := Elt Ideal) m.view _ i4 w4 _ y e4 1 (by simp; omega)).trans ?_
  by_cases c3 : 640 * t + 384 ≤ (y 1).val ∧ (y 1).val < 640 * t + 512
  · refine (View.read_writes_cons_unit_of_mem (Val := Elt Ideal) m.view _ i3 w3 _ y (ix2 (y 0) ⟨(y 1).val - (640 * t + 384), by omega⟩) e3 (by
      intro a; fin_cases a <;> simp; omega)).trans ?_
    exact tile_read hm X t T i3 3 (by omega) e3 h3 y _ _ rfl (by simp; omega)
  refine (View.read_writes_cons_unit_of_not_mem (Val := Elt Ideal) m.view _ i3 w3 _ y e3 1 (by simp; omega)).trans ?_
  by_cases c2 : 640 * t + 256 ≤ (y 1).val ∧ (y 1).val < 640 * t + 384
  · refine (View.read_writes_cons_unit_of_mem (Val := Elt Ideal) m.view _ i2 w2 _ y (ix2 (y 0) ⟨(y 1).val - (640 * t + 256), by omega⟩) e2 (by
      intro a; fin_cases a <;> simp; omega)).trans ?_
    exact tile_read hm X t T i2 2 (by omega) e2 h2 y _ _ rfl (by simp; omega)
  refine (View.read_writes_cons_unit_of_not_mem (Val := Elt Ideal) m.view _ i2 w2 _ y e2 1 (by simp; omega)).trans ?_
  by_cases c1 : 640 * t + 128 ≤ (y 1).val ∧ (y 1).val < 640 * t + 256
  · refine (View.read_writes_cons_unit_of_mem (Val := Elt Ideal) m.view _ i1 w1 _ y (ix2 (y 0) ⟨(y 1).val - (640 * t + 128), by omega⟩) e1 (by
      intro a; fin_cases a <;> simp; omega)).trans ?_
    exact tile_read hm X t T i1 1 (by omega) e1 h1 y _ _ rfl (by simp; omega)
  refine (View.read_writes_cons_unit_of_not_mem (Val := Elt Ideal) m.view _ i1 w1 _ y e1 1 (by simp; omega)).trans ?_
  by_cases c0 : 640 * t ≤ (y 1).val ∧ (y 1).val < 640 * t + 128
  · refine (View.read_writes_cons_unit_of_mem (Val := Elt Ideal) m.view _ i0 w0 _ y (ix2 (y 0) ⟨(y 1).val - (640 * t), by omega⟩) e0 (by
      intro a; fin_cases a <;> simp; omega)).trans ?_
    exact tile_read hm X t T i0 0 (by omega) e0 h0 y _ _ rfl (by simp; omega)
  refine (View.read_writes_cons_unit_of_not_mem (Val := Elt Ideal) m.view _ i0 w0 _ y e0 1 (by simp; omega)).trans ?_
  rw [addChunk, if_neg (by omega)]
  exact congrFun (hm.read_unread X) y

end Step

/-- The running sum of the gradient of `beta` after the first `k` chunks of one image. -/
def sumB (x2 : Vec Ideal S1x256x2560 .bf16) (x3 : Vec Ideal S1x256x2560 .fp8e5m2) (x4 x5 : Vec Ideal S1x2560 .f32) (v12 : EReal) (X : Vec Ideal S8x2560 .f32) :
    ℕ → Vec Ideal S8x2560 .f32
  | 0 => X
  | t + 1 => addChunk (sumB x2 x3 x4 x5 v12 X t) t fun j => dbT x2 x3 t j (rowT x4 t j) (rowT x5 t j) v12

/-- The running sum of the gradient of `gamma` after the first `k` chunks of one image. -/
def sumG (x2 : Vec Ideal S1x256x2560 .bf16) (x3 : Vec Ideal S1x256x2560 .fp8e5m2) (x4 x5 : Vec Ideal S1x2560 .f32) (v12 : EReal) (X : Vec Ideal S8x2560 .f32) :
    ℕ → Vec Ideal S8x2560 .f32
  | 0 => X
  | t + 1 => addChunk (sumG x2 x3 x4 x5 v12 X t) t fun j => dgT x2 x3 t j (rowT x4 t j) (rowT x5 t j) v12

/-- What a whole buffer holds after `k` steps of `S` from contents `G`. -/
def accum {sp : Space} {m : Memref sig .tc sp S8x2560 .f32} (hm : m.IsWhole) (G : BufTy.Contents (Elt Ideal) m.view.ty)
    (S : Vec Ideal S8x2560 .f32 → ℕ → Vec Ideal S8x2560 .f32) : ℕ → BufTy.Contents (Elt Ideal) m.view.ty
  | 0 => G
  | k + 1 => hm.unread (S (m.view.read (Elt Ideal) G) (k + 1))

/-- An accumulator after `k` chunks. -/
theorem accum_eq {sp : Space} {m : Memref sig .tc sp S8x2560 .f32} (hm : m.IsWhole) (G : BufTy.Contents (Elt Ideal) m.view.ty)
    (S : Vec Ideal S8x2560 .f32 → ℕ → Vec Ideal S8x2560 .f32) (hS : ∀ X, S X 0 = X) (k : ℕ) :
    accum hm G S k = hm.unread (S (m.view.read (Elt Ideal) G) k) := by
  cases k with
  | zero => rw [hS]; exact hm.eq_unread rfl
  | succ k => rfl

end Cert.Proof.KernelIdeal

end
-- ==== Proof.Chunk.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Tactic
public import proofs.«01_k».proof.Proof.Loops
public import proofs.«01_k».proof.Proof.Spec

@[expose] public section

noncomputable section

namespace Cert.Proof.KernelIdeal.Value

open Cert.KernelIdeal Cert.KernelIdeal.Gen Cert.Proof.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf ΦA)

local notation "𝕄" => MT nD τ sig Unit (Elt Ideal) ℕ (UR sig nD τ) ℕ

set_option maxHeartbeats 2000000

/-- The loop over the four chunks of channels: after `k` of them the running sums of the gradients of `gamma` and `beta`
    have those chunks of this image added. -/
@[instance_reducible] noncomputable def chunk_k0_t1 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (arg0 : BitVec 32) (k0_h2 : k0_cond2 i = 1#1) (v12 : Elt Ideal .f32) (x2 : Vec Ideal S1x256x2560 .bf16) (x3 : Vec Ideal S1x256x2560 .fp8e5m2) (x4 x5 : Vec Ideal S1x2560 .f32) (x12 x13 : Vec Ideal S8x2560 .f32) :
    Idealize.ShloMosaic.LoopInv (M := 𝕄) Idealize.ShloMosaic.frame (wpE (defs₀ (F := Ideal)) 𝒱₀ (c : Thread nD τ) none) Set.univ
      k0_t1_loop.lb k0_t1_loop.ub k0_t1_loop.st (k0_t1_ok i k0_h2) PUnit.unit (k0_t1_body (F := Ideal) i arg1 harg1 arg2 harg2 arg3 harg3 arg4 harg4 arg5 harg5 arg6 harg6 arg7 harg7 arg8 harg8 arg9 harg9 arg10 harg10 arg11 harg11 arg12 harg12 arg13 harg13 arg0 k0_h2 v12) where
  inv := fun k acc => iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗
    (∃ Z, (arg10.view.loc (c : Thread nD τ) ↦[arg10.view.set]{fullShare} Z)) ∗ (∃ Z, (arg11.view.loc (c : Thread nD τ) ↦[arg11.view.set]{fullShare} Z)) ∗ (arg12.view.loc (c : Thread nD τ) ↦[arg12.view.set]{fullShare} harg12.unread (sumG x2 x3 x4 x5 v12 x12 k)) ∗ (arg13.view.loc (c : Thread nD τ) ↦[arg13.view.set]{fullShare} harg13.unread (sumB x2 x3 x4 x5 v12 x13 k)))
  step := fun k acc => by
    unfold k0_t1_body
    iintro ⟨H2, H3, H4, H5, ⟨%f10, H10⟩, ⟨%f11, H11⟩, H12, H13⟩
    sl_exec
    sl_step
    have b0 : chunk_k0_t1.sl.v492 i arg4 harg4 arg5 harg5 arg13 harg13 k0_h2 v12 x2 x3 x4 x5 x13 k = addTile (View.readAt (Elt Ideal) arg13.view (Rect.unit (s := S8x2560) (k0_off6 k 0#32) S8x128.size (k0_off6_inb i k k0_h2 0)).toLoadRect (harg13.unread (sumB x2 x3 x4 x5 v12 x13 k)))
        (dbT x2 x3 k.val 0 (rowT x4 k.val 0) (rowT x5 k.val 0) v12) := by
      rw [← rowT_eq harg4 x4 (k0_off3_inb i k k0_h2 0) (t := k.val) (j := 0) (k0_off3_eq k 0), ← rowT_eq harg5 x5 (k0_off3_inb i k k0_h2 0) (t := k.val) (j := 0) (k0_off3_eq k 0)]
      rfl
    have b1 : chunk_k0_t1.sl.v510 i arg4 harg4 arg5 harg5 arg13 harg13 k0_h2 v12 x2 x3 x4 x5 x13 k = addTile (View.readAt (Elt Ideal) arg13.view (Rect.unit (s := S8x2560) (k0_off6 k 128#32) S8x128.size (k0_off6_inb i k k0_h2 1)).toLoadRect (harg13.unread (sumB x2 x3 x4 x5 v12 x13 k)))
        (dbT x2 x3 k.val 1 (rowT x4 k.val 1) (rowT x5 k.val 1) v12) := by
      rw [← rowT_eq harg4 x4 (k0_off3_inb i k k0_h2 1) (t := k.val) (j := 1) (k0_off3_eq k 1), ← rowT_eq harg5 x5 (k0_off3_inb i k k0_h2 1) (t := k.val) (j := 1) (k0_off3_eq k 1)]
      rfl
    have b2 : chunk_k0_t1.sl.v528 i arg4 harg4 arg5 harg5 arg13 harg13 k0_h2 v12 x2 x3 x4 x5 x13 k = addTile (View.readAt (Elt Ideal) arg13.view (Rect.unit (s := S8x2560) (k0_off6 k 256#32) S8x128.size (k0_off6_inb i k k0_h2 2)).toLoadRect (harg13.unread (sumB x2 x3 x4 x5 v12 x13 k)))
        (dbT x2 x3 k.val 2 (rowT x4 k.val 2) (rowT x5 k.val 2) v12) := by
      rw [← rowT_eq harg4 x4 (k0_off3_inb i k k0_h2 2) (t := k.val) (j := 2) (k0_off3_eq k 2), ← rowT_eq harg5 x5 (k0_off3_inb i k k0_h2 2) (t := k.val) (j := 2) (k0_off3_eq k 2)]
      rfl
    have b3 : chunk_k0_t1.sl.v546 i arg4 harg4 arg5 harg5 arg13 harg13 k0_h2 v12 x2 x3 x4 x5 x13 k = addTile (View.readAt (Elt Ideal) arg13.view (Rect.unit (s := S8x2560) (k0_off6 k 384#32) S8x128.size (k0_off6_inb i k k0_h2 3)).toLoadRect (harg13.unread (sumB x2 x3 x4 x5 v12 x13 k)))
        (dbT x2 x3 k.val 3 (rowT x4 k.val 3) (rowT x5 k.val 3) v12) := by
      rw [← rowT_eq harg4 x4 (k0_off3_inb i k k0_h2 3) (t := k.val) (j := 3) (k0_off3_eq k 3), ← rowT_eq harg5 x5 (k0_off3_inb i k k0_h2 3) (t := k.val) (j := 3) (k0_off3_eq k 3)]
      rfl
    have b4 : chunk_k0_t1.sl.v564 i arg4 harg4 arg5 harg5 arg13 harg13 k0_h2 v12 x2 x3 x4 x5 x13 k = addTile (View.readAt (Elt Ideal) arg13.view (Rect.unit (s := S8x2560) (k0_off6 k 512#32) S8x128.size (k0_off6_inb i k k0_h2 4)).toLoadRect (harg13.unread (sumB x2 x3 x4 x5 v12 x13 k)))
        (dbT x2 x3 k.val 4 (rowT x4 k.val 4) (rowT x5 k.val 4) v12) := by
      rw [← rowT_eq harg4 x4 (k0_off3_inb i k k0_h2 4) (t := k.val) (j := 4) (k0_off3_eq k 4), ← rowT_eq harg5 x5 (k0_off3_inb i k k0_h2 4) (t := k.val) (j := 4) (k0_off3_eq k 4)]
      rfl
    have b := writes_chunk harg13 (sumB x2 x3 x4 x5 v12 x13 k.val) k.val (fun j => dbT x2 x3 k.val j (rowT x4 k.val j) (rowT x5 k.val j) v12)
      (k0_off6_inb i k k0_h2 0) (k0_off6_inb i k k0_h2 1) (k0_off6_inb i k k0_h2 2) (k0_off6_inb i k k0_h2 3) (k0_off6_inb i k k0_h2 4)
      (k0_off6_eq k 0) (k0_off6_eq k 1) (k0_off6_eq k 2) (k0_off6_eq k 3) (k0_off6_eq k 4) b0 b1 b2 b3 b4
    have g0 : chunk_k0_t1.sl.v501 i arg4 harg4 arg5 harg5 arg12 harg12 k0_h2 v12 x2 x3 x4 x5 x12 k = addTile (View.readAt (Elt Ideal) arg12.view (Rect.unit (s := S8x2560) (k0_off6 k 0#32) S8x128.size (k0_off6_inb i k k0_h2 0)).toLoadRect (harg12.unread (sumG x2 x3 x4 x5 v12 x12 k)))
        (dgT x2 x3 k.val 0 (rowT x4 k.val 0) (rowT x5 k.val 0) v12) := by
      rw [← rowT_eq harg4 x4 (k0_off3_inb i k k0_h2 0) (t := k.val) (j := 0) (k0_off3_eq k 0), ← rowT_eq harg5 x5 (k0_off3_inb i k k0_h2 0) (t := k.val) (j := 0) (k0_off3_eq k 0)]
      rfl
    have g1 : chunk_k0_t1.sl.v519 i arg4 harg4 arg5 harg5 arg12 harg12 k0_h2 v12 x2 x3 x4 x5 x12 k = addTile (View.readAt (Elt Ideal) arg12.view (Rect.unit (s := S8x2560) (k0_off6 k 128#32) S8x128.size (k0_off6_inb i k k0_h2 1)).toLoadRect (harg12.unread (sumG x2 x3 x4 x5 v12 x12 k)))
        (dgT x2 x3 k.val 1 (rowT x4 k.val 1) (rowT x5 k.val 1) v12) := by
      rw [← rowT_eq harg4 x4 (k0_off3_inb i k k0_h2 1) (t := k.val) (j := 1) (k0_off3_eq k 1), ← rowT_eq harg5 x5 (k0_off3_inb i k k0_h2 1) (t := k.val) (j := 1) (k0_off3_eq k 1)]
      rfl
    have g2 : chunk_k0_t1.sl.v537 i arg4 harg4 arg5 harg5 arg12 harg12 k0_h2 v12 x2 x3 x4 x5 x12 k = addTile (View.readAt (Elt Ideal) arg12.view (Rect.unit (s := S8x2560) (k0_off6 k 256#32) S8x128.size (k0_off6_inb i k k0_h2 2)).toLoadRect (harg12.unread (sumG x2 x3 x4 x5 v12 x12 k)))
        (dgT x2 x3 k.val 2 (rowT x4 k.val 2) (rowT x5 k.val 2) v12) := by
      rw [← rowT_eq harg4 x4 (k0_off3_inb i k k0_h2 2) (t := k.val) (j := 2) (k0_off3_eq k 2), ← rowT_eq harg5 x5 (k0_off3_inb i k k0_h2 2) (t := k.val) (j := 2) (k0_off3_eq k 2)]
      rfl
    have g3 : chunk_k0_t1.sl.v555 i arg4 harg4 arg5 harg5 arg12 harg12 k0_h2 v12 x2 x3 x4 x5 x12 k = addTile (View.readAt (Elt Ideal) arg12.view (Rect.unit (s := S8x2560) (k0_off6 k 384#32) S8x128.size (k0_off6_inb i k k0_h2 3)).toLoadRect (harg12.unread (sumG x2 x3 x4 x5 v12 x12 k)))
        (dgT x2 x3 k.val 3 (rowT x4 k.val 3) (rowT x5 k.val 3) v12) := by
      rw [← rowT_eq harg4 x4 (k0_off3_inb i k k0_h2 3) (t := k.val) (j := 3) (k0_off3_eq k 3), ← rowT_eq harg5 x5 (k0_off3_inb i k k0_h2 3) (t := k.val) (j := 3) (k0_off3_eq k 3)]
      rfl
    have g4 : chunk_k0_t1.sl.v573 i arg4 harg4 arg5 harg5 arg12 harg12 k0_h2 v12 x2 x3 x4 x5 x12 k = addTile (View.readAt (Elt Ideal) arg12.view (Rect.unit (s := S8x2560) (k0_off6 k 512#32) S8x128.size (k0_off6_inb i k k0_h2 4)).toLoadRect (harg12.unread (sumG x2 x3 x4 x5 v12 x12 k)))
        (dgT x2 x3 k.val 4 (rowT x4 k.val 4) (rowT x5 k.val 4) v12) := by
      rw [← rowT_eq harg4 x4 (k0_off3_inb i k k0_h2 4) (t := k.val) (j := 4) (k0_off3_eq k 4), ← rowT_eq harg5 x5 (k0_off3_inb i k k0_h2 4) (t := k.val) (j := 4) (k0_off3_eq k 4)]
      rfl
    have g := writes_chunk harg12 (sumG x2 x3 x4 x5 v12 x12 k.val) k.val (fun j => dgT x2 x3 k.val j (rowT x4 k.val j) (rowT x5 k.val j) v12)
      (k0_off6_inb i k k0_h2 0) (k0_off6_inb i k k0_h2 1) (k0_off6_inb i k k0_h2 2) (k0_off6_inb i k k0_h2 3) (k0_off6_inb i k k0_h2 4)
      (k0_off6_eq k 0) (k0_off6_eq k 1) (k0_off6_eq k 2) (k0_off6_eq k 3) (k0_off6_eq k 4) g0 g1 g2 g3 g4
    have g' : harg12.unread (sumG x2 x3 x4 x5 v12 x12 (k.val + 1)) = _ := g.symm
    have b' : harg13.unread (sumB x2 x3 x4 x5 v12 x13 (k.val + 1)) = _ := b.symm
    rw [g', b']
    isplitl [H2]; · iexact H2
    isplitl [H3]; · iexact H3
    isplitl [H4]; · iexact H4
    isplitl [H5]; · iexact H5
    isplitl [H10]; · iexists _; iexact H10
    isplitl [H11]; · iexists _; iexact H11
    isplitl [H12]; · iexact H12
    iexact H13

/-- What the loop over the chunks holds: the inputs as they were, the running sums at `Y12` and `Y13`, the rest at some contents. -/
def chunkInv (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (x2 : Vec Ideal S1x256x2560 .bf16) (x3 : Vec Ideal S1x256x2560 .fp8e5m2) (x4 x5 : Vec Ideal S1x2560 .f32) (Y12 : BufTy.Contents (Elt Ideal) arg12.view.ty) (Y13 : BufTy.Contents (Elt Ideal) arg13.view.ty) : sProp 𝕄 :=
  iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗
    (∃ Z, (arg10.view.loc (c : Thread nD τ) ↦[arg10.view.set]{fullShare} Z)) ∗ (∃ Z, (arg11.view.loc (c : Thread nD τ) ↦[arg11.view.set]{fullShare} Z)) ∗ (arg12.view.loc (c : Thread nD τ) ↦[arg12.view.set]{fullShare} Y12) ∗ (arg13.view.loc (c : Thread nD τ) ↦[arg13.view.set]{fullShare} Y13))

/-- The same loop from any contents of the running sums. -/
@[sl_loop, instance_reducible] noncomputable def loop_k0_t1 (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (arg0 : BitVec 32) (k0_h2 : k0_cond2 i = 1#1) (v12 : Elt Ideal .f32) (x2 : Vec Ideal S1x256x2560 .bf16) (x3 : Vec Ideal S1x256x2560 .fp8e5m2) (x4 x5 : Vec Ideal S1x2560 .f32) (G12 : BufTy.Contents (Elt Ideal) arg12.view.ty) (G13 : BufTy.Contents (Elt Ideal) arg13.view.ty) :
    Idealize.ShloMosaic.LoopInv (M := 𝕄) Idealize.ShloMosaic.frame (wpE (defs₀ (F := Ideal)) 𝒱₀ (c : Thread nD τ) none) Set.univ
      k0_t1_loop.lb k0_t1_loop.ub k0_t1_loop.st (k0_t1_ok i k0_h2) PUnit.unit (k0_t1_body (F := Ideal) i arg1 harg1 arg2 harg2 arg3 harg3 arg4 harg4 arg5 harg5 arg6 harg6 arg7 harg7 arg8 harg8 arg9 harg9 arg10 harg10 arg11 harg11 arg12 harg12 arg13 harg13 arg0 k0_h2 v12) where
  inv := fun k acc => iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗
    (∃ Z, (arg10.view.loc (c : Thread nD τ) ↦[arg10.view.set]{fullShare} Z)) ∗ (∃ Z, (arg11.view.loc (c : Thread nD τ) ↦[arg11.view.set]{fullShare} Z)) ∗ (arg12.view.loc (c : Thread nD τ) ↦[arg12.view.set]{fullShare} accum harg12 G12 (sumG x2 x3 x4 x5 v12) k) ∗ (arg13.view.loc (c : Thread nD τ) ↦[arg13.view.set]{fullShare} accum harg13 G13 (sumB x2 x3 x4 x5 v12) k))
  step := fun k acc => by
    have h := (chunk_k0_t1 c i arg1 harg1 arg2 harg2 arg3 harg3 arg4 harg4 arg5 harg5 arg6 harg6 arg7 harg7 arg8 harg8 arg9 harg9 arg10 harg10 arg11 harg11 arg12 harg12 arg13 harg13 arg0 k0_h2 v12 x2 x3 x4 x5 (arg12.view.read (Elt Ideal) G12) (arg13.view.read (Elt Ideal) G13)).step k acc
    have e12 := accum_eq harg12 G12 (sumG x2 x3 x4 x5 v12) fun _ => rfl
    have e13 := accum_eq harg13 G13 (sumB x2 x3 x4 x5 v12) fun _ => rfl
    show chunkInv c i arg1 harg1 arg2 harg2 arg3 harg3 arg4 harg4 arg5 harg5 arg6 harg6 arg7 harg7 arg8 harg8 arg9 harg9 arg10 harg10 arg11 harg11 arg12 harg12 arg13 harg13 x2 x3 x4 x5 (accum harg12 G12 (sumG x2 x3 x4 x5 v12) k.val) (accum harg13 G13 (sumB x2 x3 x4 x5 v12) k.val)
      ⊢ wp Idealize.ShloMosaic.frame (wpE (defs₀ (F := Ideal)) 𝒱₀ (c : Thread nD τ) none) Set.univ (k0_t1_body (F := Ideal) i arg1 harg1 arg2 harg2 arg3 harg3 arg4 harg4 arg5 harg5 arg6 harg6 arg7 harg7 arg8 harg8 arg9 harg9 arg10 harg10 arg11 harg11 arg12 harg12 arg13 harg13 arg0 k0_h2 v12 k acc)
        fun _ => chunkInv c i arg1 harg1 arg2 harg2 arg3 harg3 arg4 harg4 arg5 harg5 arg6 harg6 arg7 harg7 arg8 harg8 arg9 harg9 arg10 harg10 arg11 harg11 arg12 harg12 arg13 harg13 x2 x3 x4 x5 (accum harg12 G12 (sumG x2 x3 x4 x5 v12) (k.val + 1)) (accum harg13 G13 (sumB x2 x3 x4 x5 v12) (k.val + 1))
    rw [e12, e13, e12, e13]
    exact h

end Cert.Proof.KernelIdeal.Value

end
-- ==== Proof.Run.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Tactic
public import proofs.«01_k».proof.Proof.Loops
public import proofs.«01_k».proof.Proof.Chunk

@[expose] public section

noncomputable section

namespace Cert.Proof.KernelIdeal.Value

open Cert.KernelIdeal Cert.KernelIdeal.Gen Cert.Proof.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf ΦA)

local notation "𝕄" => MT nD τ sig Unit (Elt Ideal) ℕ (UR sig nD τ) ℕ

set_option maxHeartbeats 2000000

/-- The second branch is taken in the first twenty steps. -/
theorem cond2_iff (i : grid0.Coords) : k0_cond2 i = 1#1 ↔ (i 0).val < 20 := by
  have h : ∀ n : Fin 40, Scalar.cmpi .ne (Scalar.extui (Scalar.cmpi .slt (BitVec.ofNat 32 n.val) 20#32) : BitVec 32) 0#32 = 1#1 ↔ n.val < 20 := by decide
  exact h (i 0)

/-- The third branch is taken in the last twenty steps. -/
theorem cond3_iff (i : grid0.Coords) : k0_cond3 i = 1#1 ↔ ¬(i 0).val < 20 := by
  have h : ∀ n : Fin 40, Scalar.cmpi .ne (Scalar.extui (Scalar.cmpi .sge (BitVec.ofNat 32 n.val) 20#32) : BitVec 32) 0#32 = 1#1 ↔ ¬n.val < 20 := by decide
  exact h (i 0)

/-- The fourth branch is taken in the last step. -/
theorem cond4_iff (i : grid0.Coords) : k0_cond4 i = 1#1 ↔ (i 0).val = 39 := by
  have h : ∀ n : Fin 40, Scalar.cmpi .ne (Scalar.extui (Scalar.cmpi .eq (BitVec.ofNat 32 n.val) 39#32) : BitVec 32) 0#32 = 1#1 ↔ n.val = 39 := by decide
  exact h (i 0)

/-- The first branch is taken in the first step. -/
theorem cond1_iff (i : grid0.Coords) : Scalar.cmpi .ne (Scalar.extui (Scalar.cmpi .eq (BitVec.ofNat 32 (i 0).val) 0#32) : BitVec 32) 0#32 = 1#1 ↔ (i 0).val = 0 := by
  have h : ∀ n : Fin 40, Scalar.cmpi .ne (Scalar.extui (Scalar.cmpi .eq (BitVec.ofNat 32 n.val) 0#32) : BitVec 32) 0#32 = 1#1 ↔ n.val = 0 := by decide
  exact h (i 0)

/-- Zero at every sublane and channel. -/
def zero8 : Vec Ideal S8x2560 .f32 := fun _ => (0 : EReal)

/-- The running sums added over the sublanes. -/
def colsum (X : Vec Ideal S8x2560 .f32) : Vec Ideal S1x2560 .f32 := k0_pay12 X

/-- The scale of the incoming gradient. -/
def sdy (x1 : Vec Ideal S1 .f32) : EReal := x1 (ix1 0)

/-- The `dgamma` accumulator after the four chunks of one image. -/
theorem read_sumG {sp : Space} {m : Memref sig .tc sp S8x2560 .f32} (hm : m.IsWhole) {G : BufTy.Contents (Elt Ideal) m.view.ty} {X : Vec Ideal S8x2560 .f32}
    (hG : m.view.read (Elt Ideal) G = X) {x2 : Vec Ideal S1x256x2560 .bf16} {x3 : Vec Ideal S1x256x2560 .fp8e5m2} {x4 x5 : Vec Ideal S1x2560 .f32} {v w : EReal} (hv : v = w) :
    m.view.read (Elt Ideal) (accum hm G (sumG x2 x3 x4 x5 v) (Scf.trips k0_t1_loop.lb k0_t1_loop.ub k0_t1_loop.st)) = sumG x2 x3 x4 x5 w X 4 := by
  rw [accum_eq hm G (sumG x2 x3 x4 x5 v) fun _ => rfl, hm.read_unread, hG, hv]
  rfl

/-- The `dbeta` accumulator after the four chunks of one image. -/
theorem read_sumB {sp : Space} {m : Memref sig .tc sp S8x2560 .f32} (hm : m.IsWhole) {G : BufTy.Contents (Elt Ideal) m.view.ty} {X : Vec Ideal S8x2560 .f32}
    (hG : m.view.read (Elt Ideal) G = X) {x2 : Vec Ideal S1x256x2560 .bf16} {x3 : Vec Ideal S1x256x2560 .fp8e5m2} {x4 x5 : Vec Ideal S1x2560 .f32} {v w : EReal} (hv : v = w) :
    m.view.read (Elt Ideal) (accum hm G (sumB x2 x3 x4 x5 v) (Scf.trips k0_t1_loop.lb k0_t1_loop.ub k0_t1_loop.st)) = sumB x2 x3 x4 x5 w X 4 := by
  rw [accum_eq hm G (sumB x2 x3 x4 x5 v) fun _ => rfl, hm.read_unread, hG, hv]
  rfl

/-- A whole store leaves its payload. -/
theorem read_whole_store {sp : Space} {s : Shape} {m : Memref sig .tc sp s .f32} (G : BufTy.Contents (Elt Ideal) m.view.ty) (w : Vec Ideal s .f32)
    {off : Fin s.rank → ℕ} (h : off = fun _ => 0) (inb : ∀ a, off a + s.size a ≤ s.size a) :
    m.view.read (Elt Ideal) (m.view.writes (Elt Ideal) G [⟨Rect.unit off s.size inb, w⟩]) = w := by
  funext y
  exact View.read_writes_cons_unit_of_mem (Val := Elt Ideal) m.view G inb w [] y y h fun a => by simp

/-- The accumulators begin at zero. -/
theorem zero_pay2 : (k0_pay2 (F := Ideal) : FVec Ideal S8x2560 .f32) = zero8 := by
  funext y; pointwise [k0_pay2, zero8]

/-- The zero offset. -/
theorem off00 : (![0, 0] : Fin 2 → ℕ) = fun _ => 0 := by funext a; fin_cases a <;> rfl

/-- A stored column sum, read back. -/
theorem stored_colsum {sp sp' : Space} {m : Memref sig .tc sp S1x2560 .f32} {m' : Memref sig .tc sp' S8x2560 .f32} (hm' : m'.IsWhole) (G : BufTy.Contents (Elt Ideal) m.view.ty) (X : Vec Ideal S8x2560 .f32) :
    m.view.read (Elt Ideal) (m.view.writes (Elt Ideal) G [⟨Rect.unit ![0, 0] S1x2560.size inb_S1x2560_S1x2560_0_0,
      k0_pay12 (View.readAt (Elt Ideal) m'.view (Rect.unit (s := S8x2560) ![0, 0] S8x2560.size inb_S8x2560_S8x2560_0_0).toLoadRect (hm'.unread X))⟩]) = colsum X := by
  rw [read_whole_store G _ off00]
  rw [View.readAt_eq_ld, hm'.read_unread]
  exact congrArg k0_pay12 (View.ld_unit_zero off00 _ X)

/-- The scale as it is loaded. -/
theorem load_sdy {m : Memref sig .tc .smem S1 .f32} (hm : m.IsWhole) (x1 : Vec Ideal S1 .f32) (r : LoadRect S1) (y : r.shape.Idx)
    : View.readAt (Elt Ideal) m.view r (hm.unread x1) y = sdy x1 := by
  refine (hm.readAt_unread x1 _ _).trans (congrArg x1 ?_)
  funext a
  obtain rfl : a = 0 := Fin.ext (by have := a.isLt; simpa using this)
  apply Fin.ext
  have h1 := (r.idx y 0).isLt
  simp at h1 ⊢
  omega

/-- The first point: the running sums start at zero and get the first image. -/
theorem run_first (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (hi : (i 0).val = 0) (x1 : Vec Ideal S1 .f32) (x2 : Vec Ideal S1x256x2560 .bf16) (x3 : Vec Ideal S1x256x2560 .fp8e5m2) (x4 x5 : Vec Ideal S1x2560 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗
        (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (sumG x2 x3 x4 x5 (sdy x1) zero8 4) ∗ owns (c : Thread nD τ) arg13 fullShare (sumB x2 x3 x4 x5 (sdy x1) zero8 4)) -∗ K ⟨⟩))
      ⊢ wp frame (wpE (defs₀ (F := Ideal)) 𝒱₀ c none) Set.univ (cc0_gn_silu_bwd i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5
  have c1 := (cond1_iff i).2 (by omega)
  have c2 := (cond2_iff i).2 (by omega)
  have c3 := mt (cond3_iff i).1 (by omega)
  have c4 := mt (cond4_iff i).1 (by omega)
  sl_unfold [cc0_gn_silu_bwd]
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; isplitr; swap; · iexact H12
    ipureintro; exact read_sumG harg12 ((read_whole_store (m := arg12) _ (k0_pay2 (F := Ideal)) off00 inb_S8x2560_S8x2560_0_0).trans zero_pay2) (load_sdy harg1 x1 _ _)
  iexists _; isplitr; swap; · iexact H13
  ipureintro; exact read_sumB harg13 ((read_whole_store (m := arg13) _ (k0_pay2 (F := Ideal)) off00 inb_S8x2560_S8x2560_0_0).trans zero_pay2) (load_sdy harg1 x1 _ _)

/-- A later point of the first pass: the running sums get one image more. -/
theorem run_mid (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (hz : (i 0).val ≠ 0) (hl : (i 0).val < 20) (x1 : Vec Ideal S1 .f32) (x2 : Vec Ideal S1x256x2560 .bf16) (x3 : Vec Ideal S1x256x2560 .fp8e5m2) (x4 x5 : Vec Ideal S1x2560 .f32) (x12 x13 : Vec Ideal S8x2560 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗
        (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (sumG x2 x3 x4 x5 (sdy x1) x12 4) ∗ owns (c : Thread nD τ) arg13 fullShare (sumB x2 x3 x4 x5 (sdy x1) x13 4)) -∗ K ⟨⟩))
      ⊢ wp frame (wpE (defs₀ (F := Ideal)) 𝒱₀ c none) Set.univ (cc0_gn_silu_bwd i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5
  obtain rfl := harg12.eq_unread hf12; obtain rfl := harg13.eq_unread hf13
  have c1 := mt (cond1_iff i).1 (by omega)
  have c2 := (cond2_iff i).2 (by omega)
  have c3 := mt (cond3_iff i).1 (by omega)
  have c4 := mt (cond4_iff i).1 (by omega)
  sl_unfold [cc0_gn_silu_bwd]
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; isplitr; swap; · iexact H12
    ipureintro; exact read_sumG harg12 (harg12.read_unread _) (load_sdy harg1 x1 _ _)
  iexists _; isplitr; swap; · iexact H13
  ipureintro; exact read_sumB harg13 (harg13.read_unread _) (load_sdy harg1 x1 _ _)

/-- A point of the second pass: the running sums stay. -/
theorem run_quant (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (hl : ¬(i 0).val < 20) (he : (i 0).val ≠ 39) (x1 : Vec Ideal S1 .f32) (x2 : Vec Ideal S1x256x2560 .bf16) (x3 : Vec Ideal S1x256x2560 .fp8e5m2) (x4 x5 : Vec Ideal S1x2560 .f32) (x12 x13 : Vec Ideal S8x2560 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗
        (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13) -∗ K ⟨⟩))
      ⊢ wp frame (wpE (defs₀ (F := Ideal)) 𝒱₀ c none) Set.univ (cc0_gn_silu_bwd i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5
  obtain rfl := harg12.eq_unread hf12; obtain rfl := harg13.eq_unread hf13
  have c1 := mt (cond1_iff i).1 (by omega)
  have c2 := mt (cond2_iff i).1 (by omega)
  have c3 := (cond3_iff i).2 (by omega)
  have c4 := mt (cond4_iff i).1 (by omega)
  sl_unfold [cc0_gn_silu_bwd]
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; isplitr; swap; · iexact H12
    ipureintro; exact harg12.read_unread _
  iexists _; isplitr; swap; · iexact H13
  ipureintro; exact harg13.read_unread _

/-- The last point: the running sums added over the sublanes are stored as results. -/
theorem run_last (c : Dev nD) (i : grid0.Coords) (arg1 : Memref sig .tc .smem S1 .f32) (harg1 : arg1.IsWhole) (arg2 : Memref sig .tc .vmem S1x256x2560 .bf16) (harg2 : arg2.IsWhole) (arg3 : Memref sig .tc .vmem S1x256x2560 .fp8e5m2) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .fp8e5m2) (harg6 : arg6.IsWhole) (arg7 : Memref sig .tc .vmem S1x128 .f32) (harg7 : arg7.IsWhole) (arg8 : Memref sig .tc .vmem S1x2560 .f32) (harg8 : arg8.IsWhole) (arg9 : Memref sig .tc .vmem S1x2560 .f32) (harg9 : arg9.IsWhole) (arg10 : Memref sig .tc .vmem S20x256x2560 .f32) (harg10 : arg10.IsWhole) (arg11 : Memref sig .tc .vmem S8x128 .f32) (harg11 : arg11.IsWhole) (arg12 : Memref sig .tc .vmem S8x2560 .f32) (harg12 : arg12.IsWhole) (arg13 : Memref sig .tc .vmem S8x2560 .f32) (harg13 : arg13.IsWhole) (hi : (i 0).val = 39) (x1 : Vec Ideal S1 .f32) (x2 : Vec Ideal S1x256x2560 .bf16) (x3 : Vec Ideal S1x256x2560 .fp8e5m2) (x4 x5 : Vec Ideal S1x2560 .f32) (x12 x13 : Vec Ideal S8x2560 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗
        (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare (colsum x12) ∗ owns (c : Thread nD τ) arg9 fullShare (colsum x13) ∗ (∃ d, owns (c : Thread nD τ) arg10 fullShare d) ∗ (∃ d, owns (c : Thread nD τ) arg11 fullShare d) ∗ owns (c : Thread nD τ) arg12 fullShare x12 ∗ owns (c : Thread nD τ) arg13 fullShare x13) -∗ K ⟨⟩))
      ⊢ wp frame (wpE (defs₀ (F := Ideal)) 𝒱₀ c none) Set.univ (cc0_gn_silu_bwd i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5
  obtain rfl := harg12.eq_unread hf12; obtain rfl := harg13.eq_unread hf13
  have c1 := mt (cond1_iff i).1 (by omega)
  have c2 := mt (cond2_iff i).1 (by omega)
  have c3 := (cond3_iff i).2 (by omega)
  have c4 := (cond4_iff i).2 (by omega)
  sl_unfold [cc0_gn_silu_bwd]
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; iexists _; isplitr; swap; · iexact H6
    ipureintro; rfl
  isplitl [H7]
  · iexists _; iexists _; isplitr; swap; · iexact H7
    ipureintro; rfl
  isplitl [H8]
  · iexists _; isplitr; swap; · iexact H8
    ipureintro; exact stored_colsum harg12 _ _
  isplitl [H9]
  · iexists _; isplitr; swap; · iexact H9
    ipureintro; exact stored_colsum harg13 _ _
  isplitl [H10]
  · iexists _; iexists _; isplitr; swap; · iexact H10
    ipureintro; rfl
  isplitl [H11]
  · iexists _; iexists _; isplitr; swap; · iexact H11
    ipureintro; rfl
  isplitl [H12]
  · iexists _; isplitr; swap; · iexact H12
    ipureintro; exact harg12.read_unread _
  iexists _; isplitr; swap; · iexact H13
  ipureintro; exact harg13.read_unread _

end Cert.Proof.KernelIdeal.Value

end
-- ==== Proof.Launch.lean ====
/- The launch with its running sums tracked: the third and fourth results end at the sums over the twenty images. -/
module

public import proofs.«01_k».proof.Proof.Run
public import proofs.«01_k».proof.Proof.FrameKernelIdeal
public import Idealize.ShloMosaic.Lib.Pipeline.Value

@[expose] public section

noncomputable section

namespace Cert.Proof.KernelIdeal.Value

open Cert.KernelIdeal Cert.KernelIdeal.Gen Cert.Proof.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf ΦA)

local notation "𝕄" => MT nD τ sig Unit (Elt Ideal) ℕ (UR sig nD τ) ℕ

set_option maxHeartbeats 2000000

variable (m : (ℓ : Loc nD τ sig) → Buf (Elt Ideal) ℓ) (ρ : Dev nD → PrngReg)

/-- Image `b` of an array of twenty. -/
def image {e : EltTy} (X : Vec Ideal S20x256x2560 e) (b : ℕ) : Vec Ideal S1x256x2560 e :=
  fun y => X (ix3 (⟨b % 20, Nat.mod_lt _ (by decide)⟩ : Fin 20) (y 1) (y 2))

/-- The running sum of the third result after `n` images, from the arrays the launch reads. -/
def accG (X : Vec Ideal S20x256x2560 .bf16) (D : Vec Ideal S20x256x2560 .fp8e5m2) (g b : Vec Ideal S1x2560 .f32) (s : Ideal .f32) : ℕ → Vec Ideal S8x2560 .f32
  | 0 => zero8
  | n + 1 => sumG (image X n) (image D n) g b s (accG X D g b s n) 4

/-- The running sum of the fourth result after `n` images. -/
def accB (X : Vec Ideal S20x256x2560 .bf16) (D : Vec Ideal S20x256x2560 .fp8e5m2) (g b : Vec Ideal S1x2560 .f32) (s : Ideal .f32) : ℕ → Vec Ideal S8x2560 .f32
  | 0 => zero8
  | n + 1 => sumB (image X n) (image D n) g b s (accB X D g b s n) 4

/-- The `dgamma` accumulator after `n` images. -/
abbrev runG (c : Dev nD) (n : ℕ) : Vec Ideal S8x2560 .f32 :=
  accG (V m c main_arg0) (V m c main_arg3) (V m c main_v1) (V m c main_v2) (sdy (V m c main_v0)) n

/-- The `dbeta` accumulator after `n` images. -/
abbrev runB (c : Dev nD) (n : ℕ) : Vec Ideal S8x2560 .f32 :=
  accB (V m c main_arg0) (V m c main_arg3) (V m c main_v1) (V m c main_v2) (sdy (V m c main_v0)) n

/-- What the scratch buffers hold before point `n`: from the first point on the running sums of the images seen. -/
def carried (c : Dev nD) (n : ℕ) : sProp 𝕄 :=
  iprop(((∃ d, owns (c : Thread nD τ) (Memref.whole cc0_scratch0) fullShare d)
    ∗ (∃ d, owns (c : Thread nD τ) (Memref.whole cc0_scratch1) fullShare d)
    ∗ (∃ d, ⌜n ≠ 0 → d = runG m c (min n 20)⌝ ∗ owns (c : Thread nD τ) (Memref.whole cc0_scratch2) fullShare d)
    ∗ (∃ d, ⌜n ≠ 0 → d = runB m c (min n 20)⌝ ∗ owns (c : Thread nD τ) (Memref.whole cc0_scratch3) fullShare d)) ∗ ∃ r, prngReg c r)

/-- The launch's data: inputs stay, the last point leaves the two results; the running sums are carried in the scratch. -/
def tdat (c : Dev nD) : RDat τ (Elt Ideal) Unit ℕ (UR sig nD τ) ℕ cfg0 c where
  A w := V m c (Pipeline.arrRef spec0 w)
  after := fun
    | 0 => fun _ Y X => X = Y | 1 => fun _ Y X => X = Y | 2 => fun _ Y X => X = Y | 3 => fun _ Y X => X = Y | 4 => fun _ Y X => X = Y
    | 5 => fun _ _ _ => True | 6 => fun _ _ _ => True
    | 7 => fun t _ X => t.val = 39 → X = colsum (runG m c 20)
    | 8 => fun t _ X => t.val = 39 → X = colsum (runB m c 20)
    | ⟨_ + 9, h⟩ => absurd h (Nat.not_lt.2 (Nat.le_add_left _ _))
  Φ t := carried m c t.val
  q _ := fullShare
  owed _ := 0

/-- A grid step's coordinate is its number. -/
theorem coords_val : ∀ t : Fin cfg0.N, (grid0.coords t 0).val = t.val := by decide +kernel

/-- In the first twenty steps the image window is at the step's image. -/
theorem index1 : ∀ t : Fin cfg0.N, t.val < 20 → win0_1.index t 0 = t.val ∧ win0_1.index t 1 = 0 ∧ win0_1.index t 2 = 0 := by decide +kernel
theorem index2 : ∀ t : Fin cfg0.N, t.val < 20 → win0_2.index t 0 = t.val ∧ win0_2.index t 1 = 0 ∧ win0_2.index t 2 = 0 := by decide +kernel
theorem index0 : ∀ t : Fin cfg0.N, win0_0.index t 0 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel

/-- The scale's window holds the scale. -/
theorem found0 (c : Dev nD) (t : Fin cfg0.N) (Y : Vec Ideal S1 .f32) (h : (tdat m c).Finds 0 t Y) : Y = V m c main_v0 := by
  obtain ⟨d, rfl⟩ := (tdat m c).finds_in_eq_fetched 0 rfl (fun _ _ _ => rfl) (fun _ _ _ h => h) t Y h
  show (tdat m c).blockOf 0 t = _
  funext y
  unfold RDat.blockOf
  rw [View.read_apply]
  show V m c main_v0 _ = V m c main_v0 y
  congr 1; funext a; apply Fin.ext
  match a with
  | ⟨0, _⟩ => show win0_0.index t 0 * 1 + 1 * (y 0).val = (y 0).val; rw [index0]; omega

/-- The window of `x` holds the step's image. -/
theorem found1 (c : Dev nD) (t : Fin cfg0.N) (ht : t.val < 20) (Y : Vec Ideal S1x256x2560 .bf16) (h : (tdat m c).Finds 1 t Y) :
    Y = image (V m c main_arg0) t.val := by
  obtain ⟨d, rfl⟩ := (tdat m c).finds_in_eq_fetched 1 rfl (fun _ _ _ => rfl) (fun _ _ _ h => h) t Y h
  show (tdat m c).blockOf 1 t = _
  funext y
  unfold RDat.blockOf image
  rw [View.read_apply]
  show V m c main_arg0 _ = V m c main_arg0 _
  obtain ⟨h0, h1, h2⟩ := index1 t ht
  have hy : (y 0).val < 1 := (y 0).isLt
  congr 1; funext a; apply Fin.ext
  match a with
  | ⟨0, _⟩ => show win0_1.index t 0 * 1 + 1 * (y 0).val = t.val % 20; rw [h0, Nat.mod_eq_of_lt ht]; omega
  | ⟨1, _⟩ => show win0_1.index t 1 * 256 + 1 * (y 1).val = (y 1).val; rw [h1]; omega
  | ⟨2, _⟩ => show win0_1.index t 2 * 2560 + 1 * (y 2).val = (y 2).val; rw [h2]; omega

/-- The window of the codes holds the step's image. -/
theorem found2 (c : Dev nD) (t : Fin cfg0.N) (ht : t.val < 20) (Y : Vec Ideal S1x256x2560 .fp8e5m2) (h : (tdat m c).Finds 2 t Y) :
    Y = image (V m c main_arg3) t.val := by
  obtain ⟨d, rfl⟩ := (tdat m c).finds_in_eq_fetched 2 rfl (fun _ _ _ => rfl) (fun _ _ _ h => h) t Y h
  show (tdat m c).blockOf 2 t = _
  funext y
  unfold RDat.blockOf image
  rw [View.read_apply]
  show V m c main_arg3 _ = V m c main_arg3 _
  obtain ⟨h0, h1, h2⟩ := index2 t ht
  have hy : (y 0).val < 1 := (y 0).isLt
  congr 1; funext a; apply Fin.ext
  match a with
  | ⟨0, _⟩ => show win0_2.index t 0 * 1 + 1 * (y 0).val = t.val % 20; rw [h0, Nat.mod_eq_of_lt ht]; omega
  | ⟨1, _⟩ => show win0_2.index t 1 * 256 + 1 * (y 1).val = (y 1).val; rw [h1]; omega
  | ⟨2, _⟩ => show win0_2.index t 2 * 2560 + 1 * (y 2).val = (y 2).val; rw [h2]; omega

/-- The window of gamma holds gamma. -/
theorem found3 (c : Dev nD) (t : Fin cfg0.N) (Y : Vec Ideal S1x2560 .f32) (h : (tdat m c).Finds 3 t Y) : Y = V m c main_v1 := by
  obtain ⟨d, rfl⟩ := (tdat m c).finds_in_eq_fetched 3 rfl (fun _ _ _ => rfl) (fun _ _ _ h => h) t Y h
  show (tdat m c).blockOf 3 t = _
  funext y
  unfold RDat.blockOf
  rw [View.read_apply]
  show V m c main_v1 _ = V m c main_v1 y
  obtain ⟨h0, h1⟩ := index3 t
  congr 1; funext a; apply Fin.ext
  match a with
  | ⟨0, _⟩ => show win0_3.index t 0 * 1 + 1 * (y 0).val = (y 0).val; rw [h0]; omega
  | ⟨1, _⟩ => show win0_3.index t 1 * 2560 + 1 * (y 1).val = (y 1).val; rw [h1]; omega

/-- The window of beta holds beta. -/
theorem found4 (c : Dev nD) (t : Fin cfg0.N) (Y : Vec Ideal S1x2560 .f32) (h : (tdat m c).Finds 4 t Y) : Y = V m c main_v2 := by
  obtain ⟨d, rfl⟩ := (tdat m c).finds_in_eq_fetched 4 rfl (fun _ _ _ => rfl) (fun _ _ _ h => h) t Y h
  show (tdat m c).blockOf 4 t = _
  funext y
  unfold RDat.blockOf
  rw [View.read_apply]
  show V m c main_v2 _ = V m c main_v2 y
  obtain ⟨h0, h1⟩ := index4 t
  congr 1; funext a; apply Fin.ext
  match a with
  | ⟨0, _⟩ => show win0_4.index t 0 * 1 + 1 * (y 0).val = (y 0).val; rw [h0]; omega
  | ⟨1, _⟩ => show win0_4.index t 1 * 2560 + 1 * (y 1).val = (y 1).val; rw [h1]; omega

/-- Each step carries the two accumulators on. -/
theorem tracked_body (c : Dev nD) : (tdat m c).BodyObligation (defs₀ (F := Ideal)) 𝒱₀ () Set.univ := fun t Y hY => by
  have e0 := found0 m c t (Y 0) (hY 0)
  have e3 := found3 m c t (Y 3) (hY 3)
  have e4 := found4 m c t (Y 4) (hY 4)
  have hc := coords_val t
  have hN : t.val < 40 := t.isLt
  rw [bigSep_W0, bigSep_W0]
  sl_whnfR [defs₀, Defs.onTc]
  rw [show (tdat m c).owesAt () t.succ = (tdat m c).owesAt () t.castSucc from rfl,
    show (tdat m c).Φ t.castSucc = carried m c t.val from rfl, show (tdat m c).Φ t.succ = carried m c (t.val + 1) from rfl]
  unfold carried
  iintro ⟨⟨⟨S0, S1, ⟨%g, %hg, S2⟩, ⟨%b, %hb, S3⟩⟩, Hp⟩, Ho, H0, H1, H2, H3, H4, H5, H6, H7, H8⟩
  by_cases h0 : t.val = 0
  · iapply (run_first c _ _ _ _ _ _ _ _ _ _ _ _ _ _ _ _ _ _ _ _ _ _ _ _ _ _ _ (hc.trans h0) (Y 0) (Y 1) (Y 2) (Y 3) (Y 4))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [S0]; · iexact S0
    isplitl [S1]; · iexact S1
    isplitl [S2]; · iexists _; iexact S2
    isplitl [S3]; · iexists _; iexact S3
    have e1 := found1 m c t (by omega) (Y 1) (hY 1)
    have e2 := found2 m c t (by omega) (Y 2) (hY 2)
    iintro ⟨H0, H1, H2, H3, H4, ⟨%d5, H5⟩, ⟨%d6, H6⟩, ⟨%d7, H7⟩, ⟨%d8, H8⟩, S0, S1, S2, S3⟩
    isplitl [S0 S1 S2 S3 Hp]
    · isplitl [S0 S1 S2 S3]
      · isplitl [S0]; · iexact S0
        isplitl [S1]; · iexact S1
        isplitl [S2]
        · iexists _; isplitr; swap; · iexact S2
          ipureintro
          intro _
          rw [e0, e1, e2, e3, e4, h0]; rfl
        iexists _; isplitr; swap; · iexact S3
        ipureintro
        intro _
        rw [e0, e1, e2, e3, e4, h0]; rfl
      iexact Hp
    isplitl [Ho]; · iexact Ho
    isplitl [H0]; · iexists _; isplitr; · ipureintro; exact rfl
                    iexact H0
    isplitl [H1]; · iexists _; isplitr; · ipureintro; exact rfl
                    iexact H1
    isplitl [H2]; · iexists _; isplitr; · ipureintro; exact rfl
                    iexact H2
    isplitl [H3]; · iexists _; isplitr; · ipureintro; exact rfl
                    iexact H3
    isplitl [H4]; · iexists _; isplitr; · ipureintro; exact rfl
                    iexact H4
    isplitl [H5]; · iexists d5; isplitr; · ipureintro; exact trivial
                    iexact H5
    isplitl [H6]; · iexists d6; isplitr; · ipureintro; exact trivial
                    iexact H6
    isplitl [H7]; · iexists d7; isplitr; · ipureintro; exact fun h => absurd (h0.symm.trans h) (by decide)
                    iexact H7
    iexists d8; isplitr; · ipureintro; exact fun h => absurd (h0.symm.trans h) (by decide)
    iexact H8
  obtain rfl := hg h0
  obtain rfl := hb h0
  by_cases hl : t.val < 20
  · iapply (run_mid c _ _ _ _ _ _ _ _ _ _ _ _ _ _ _ _ _ _ _ _ _ _ _ _ _ _ _ (by rw [hc]; exact h0) (by rw [hc]; exact hl) (Y 0) (Y 1) (Y 2) (Y 3) (Y 4) (runG m c (min t.val 20)) (runB m c (min t.val 20)))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [S0]; · iexact S0
    isplitl [S1]; · iexact S1
    isplitl [S2]; · iexact S2
    isplitl [S3]; · iexact S3
    have e1 := found1 m c t (by omega) (Y 1) (hY 1)
    have e2 := found2 m c t (by omega) (Y 2) (hY 2)
    have em : min t.val 20 = t.val := by omega
    have em' : min (t.val + 1) 20 = t.val + 1 := by omega
    iintro ⟨H0, H1, H2, H3, H4, ⟨%d5, H5⟩, ⟨%d6, H6⟩, ⟨%d7, H7⟩, ⟨%d8, H8⟩, S0, S1, S2, S3⟩
    isplitl [S0 S1 S2 S3 Hp]
    · isplitl [S0 S1 S2 S3]
      · isplitl [S0]; · iexact S0
        isplitl [S1]; · iexact S1
        isplitl [S2]
        · iexists _; isplitr; swap; · iexact S2
          ipureintro
          intro _
          rw [e0, e1, e2, e3, e4]
          show _ = runG m c (min (t.val + 1) 20)
          rw [em, em']; rfl
        iexists _; isplitr; swap; · iexact S3
        ipureintro
        intro _
        rw [e0, e1, e2, e3, e4]
        show _ = runB m c (min (t.val + 1) 20)
        rw [em, em']; rfl
      iexact Hp
    isplitl [Ho]; · iexact Ho
    isplitl [H0]; · iexists _; isplitr; · ipureintro; exact rfl
                    iexact H0
    isplitl [H1]; · iexists _; isplitr; · ipureintro; exact rfl
                    iexact H1
    isplitl [H2]; · iexists _; isplitr; · ipureintro; exact rfl
                    iexact H2
    isplitl [H3]; · iexists _; isplitr; · ipureintro; exact rfl
                    iexact H3
    isplitl [H4]; · iexists _; isplitr; · ipureintro; exact rfl
                    iexact H4
    isplitl [H5]; · iexists d5; isplitr; · ipureintro; exact trivial
                    iexact H5
    isplitl [H6]; · iexists d6; isplitr; · ipureintro; exact trivial
                    iexact H6
    isplitl [H7]; · iexists d7; isplitr; · ipureintro; exact fun h => absurd (h ▸ hl) (by decide)
                    iexact H7
    iexists d8; isplitr; · ipureintro; exact fun h => absurd (h ▸ hl) (by decide)
    iexact H8
  have em : min t.val 20 = 20 := by omega
  have em' : min (t.val + 1) 20 = 20 := by omega
  by_cases he : t.val = 39
  · iapply (run_last c _ _ _ _ _ _ _ _ _ _ _ _ _ _ _ _ _ _ _ _ _ _ _ _ _ _ _ (by rw [hc]; exact he) (Y 0) (Y 1) (Y 2) (Y 3) (Y 4) (runG m c (min t.val 20)) (runB m c (min t.val 20)))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [S0]; · iexact S0
    isplitl [S1]; · iexact S1
    isplitl [S2]; · iexact S2
    isplitl [S3]; · iexact S3
    iintro ⟨H0, H1, H2, H3, H4, ⟨%d5, H5⟩, ⟨%d6, H6⟩, H7, H8, S0, S1, S2, S3⟩
    isplitl [S0 S1 S2 S3 Hp]
    · isplitl [S0 S1 S2 S3]
      · isplitl [S0]; · iexact S0
        isplitl [S1]; · iexact S1
        isplitl [S2]
        · iexists _; isplitr; swap; · iexact S2
          ipureintro
          intro _
          show _ = runG m c (min (t.val + 1) 20)
          rw [em, em']
        iexists _; isplitr; swap; · iexact S3
        ipureintro
        intro _
        show _ = runB m c (min (t.val + 1) 20)
        rw [em, em']
      iexact Hp
    isplitl [Ho]; · iexact Ho
    isplitl [H0]; · iexists _; isplitr; · ipureintro; exact rfl
                    iexact H0
    isplitl [H1]; · iexists _; isplitr; · ipureintro; exact rfl
                    iexact H1
    isplitl [H2]; · iexists _; isplitr; · ipureintro; exact rfl
                    iexact H2
    isplitl [H3]; · iexists _; isplitr; · ipureintro; exact rfl
                    iexact H3
    isplitl [H4]; · iexists _; isplitr; · ipureintro; exact rfl
                    iexact H4
    isplitl [H5]; · iexists d5; isplitr; · ipureintro; exact trivial
                    iexact H5
    isplitl [H6]; · iexists d6; isplitr; · ipureintro; exact trivial
                    iexact H6
    isplitl [H7]; · iexists _; isplitr; swap; · iexact H7
                    ipureintro; intro _; rw [em]
    iexists _; isplitr; swap; · iexact H8
    ipureintro; intro _; rw [em]
  iapply (run_quant c _ _ _ _ _ _ _ _ _ _ _ _ _ _ _ _ _ _ _ _ _ _ _ _ _ _ _ (by rw [hc]; exact hl) (by rw [hc]; exact he) (Y 0) (Y 1) (Y 2) (Y 3) (Y 4) (runG m c (min t.val 20)) (runB m c (min t.val 20)))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [S0]; · iexact S0
  isplitl [S1]; · iexact S1
  isplitl [S2]; · iexact S2
  isplitl [S3]; · iexact S3
  iintro ⟨H0, H1, H2, H3, H4, ⟨%d5, H5⟩, ⟨%d6, H6⟩, ⟨%d7, H7⟩, ⟨%d8, H8⟩, S0, S1, S2, S3⟩
  isplitl [S0 S1 S2 S3 Hp]
  · isplitl [S0 S1 S2 S3]
    · isplitl [S0]; · iexact S0
      isplitl [S1]; · iexact S1
      isplitl [S2]
      · iexists _; isplitr; swap; · iexact S2
        ipureintro
        intro _
        show _ = runG m c (min (t.val + 1) 20)
        rw [em, em']
      iexists _; isplitr; swap; · iexact S3
      ipureintro
      intro _
      show _ = runB m c (min (t.val + 1) 20)
      rw [em, em']
    iexact Hp
  isplitl [Ho]; · iexact Ho
  isplitl [H0]; · iexists _; isplitr; · ipureintro; exact rfl
                  iexact H0
  isplitl [H1]; · iexists _; isplitr; · ipureintro; exact rfl
                  iexact H1
  isplitl [H2]; · iexists _; isplitr; · ipureintro; exact rfl
                  iexact H2
  isplitl [H3]; · iexists _; isplitr; · ipureintro; exact rfl
                  iexact H3
  isplitl [H4]; · iexists _; isplitr; · ipureintro; exact rfl
                  iexact H4
  isplitl [H5]; · iexists d5; isplitr; · ipureintro; exact trivial
                  iexact H5
  isplitl [H6]; · iexists d6; isplitr; · ipureintro; exact trivial
                  iexact H6
  isplitl [H7]; · iexists d7; isplitr; · ipureintro; exact fun h => absurd h he
                  iexact H7
  iexists d8; isplitr; · ipureintro; exact fun h => absurd h he
  iexact H8

/-- What is carried at the start. -/
theorem carried_first (c : Dev nD) : (ΦA spec0 c : sProp 𝕄) ⊢ carried m c 0 := by
  rw [scratch_eq]
  unfold carried
  iintro ⟨⟨S0, S1, ⟨%g, S2⟩, ⟨%b, S3⟩⟩, Hp⟩
  isplitl [S0 S1 S2 S3]
  · isplitl [S0]; · iexact S0
    isplitl [S1]; · iexact S1
    isplitl [S2]
    · iexists g; isplitr; swap; · iexact S2
      ipureintro; exact fun h => absurd rfl h
    iexists b; isplitr; swap; · iexact S3
    ipureintro; exact fun h => absurd rfl h
  iexact Hp

/-- What is carried can be given up at the end. -/
theorem carried_last (c : Dev nD) (n : ℕ) : carried m c n ⊢ (ΦA spec0 c : sProp 𝕄) := by
  rw [scratch_eq]
  unfold carried
  iintro ⟨⟨S0, S1, ⟨%g, -, S2⟩, ⟨%b, -, S3⟩⟩, Hp⟩
  isplitl [S0 S1 S2 S3]
  · isplitl [S0]; · iexact S0
    isplitl [S1]; · iexact S1
    isplitl [S2]; · iexists g; iexact S2
    iexists b; iexact S3
  iexact Hp

set_option backward.isDefEq.respectTransparency.types false in
/-- The launch terminates with its arrays as the tracked data say. -/
theorem run_tracked : θ_run defs (onTc (τ := τ) (main (F := Ideal))) (s₀ m ρ) (RDat.FramePost cfg0 (tdat m) (V m)) :=
  RDat.θ_run_frame_track cfgs (0 : Fin 1) launch0 defs₀ 𝒱₀ (tdat m) m ρ main
    (hbody := tracked_body m) (hshare := fun c w => by unfold RDat.share; split <;> rfl)
    (howed := fun _ _ => rfl) (V := V m) (hmain := hmain m 𝒱₀) (hA := fun _ _ => rfl)
    (hin := carried_first m) (hout := fun c => carried_last m c _)

/-- The third result at the end is the column sum of the `dgamma` accumulator. -/
theorem after7 (c : Dev nD) (G : Vec Ideal S1x2560 .f32) (h : (tdat m c).ArrAt 7 cfg0.N G) : G = colsum (runG m c 20) := by
  change (tdat m c).ArrAt 7 (39 + 1) G at h
  unfold RDat.ArrAt at h
  dsimp only at h
  rw [dif_pos (show 39 < cfg0.N by decide), if_pos ((flush0_7 _).mpr rfl)] at h
  obtain ⟨G₀, X, -, ⟨Y, -, hX⟩, hG⟩ := h
  obtain rfl := hX rfl
  have hz : (fun a => win0_7.index (⟨39, by decide⟩ : Fin cfg0.N) a * main_v3_2.ty.shape.size a) = fun _ => 0 := funext fun a => by fin_cases a <;> decide
  refine (Memref.read_access_unit_zero (Elt Ideal) main_v3_2 hz (fun a => by rw [congrFun hz a]; simp) G).symm.trans ?_
  rw [hG]
  exact View.read_write_univ _ _

/-- The fourth result at the end is the column sum of the `dbeta` accumulator. -/
theorem after8 (c : Dev nD) (G : Vec Ideal S1x2560 .f32) (h : (tdat m c).ArrAt 8 cfg0.N G) : G = colsum (runB m c 20) := by
  change (tdat m c).ArrAt 8 (39 + 1) G at h
  unfold RDat.ArrAt at h
  dsimp only at h
  rw [dif_pos (show 39 < cfg0.N by decide), if_pos ((flush0_8 _).mpr rfl)] at h
  obtain ⟨G₀, X, -, ⟨Y, -, hX⟩, hG⟩ := h
  obtain rfl := hX rfl
  have hz : (fun a => win0_8.index (⟨39, by decide⟩ : Fin cfg0.N) a * main_v3_3.ty.shape.size a) = fun _ => 0 := funext fun a => by fin_cases a <;> decide
  refine (Memref.read_access_unit_zero (Elt Ideal) main_v3_3 hz (fun a => by rw [congrFun hz a]; simp) G).symm.trans ?_
  rw [hG]
  exact View.read_write_univ _ _

/-- Every launch ends with the two results at the running sums of the twenty images, its five arguments unchanged. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3_2) = colsum (runG m c 20)
      ∧ r.2.mem ((c.tc : Thread nD τ).loc main_v3_3) = colsum (runB m c 20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      after7 m c _ ((h c).1 7), after8 m c _ ((h c).1 8),
      ((congrFun ((tdat m c).ArrAt_in 1 rfl cfg0.N) _).mp ((h c).1 1)).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((congrFun ((tdat m c).ArrAt_in 2 rfl cfg0.N) _).mp ((h c).1 2)).trans (V_main_arg3 m c),
      ((h c).2 main_arg4 (Pipeline.mem_restRefs_of main_arg4 (by decide) (by decide))).trans (V_main_arg4 m c)⟩)
    (run_tracked m ρ)

end Cert.Proof.KernelIdeal.Value

end
-- ==== Proof.Maths.lean ====
/- Group normalisation and its gradient over the extended reals, one image at a time, and the identities that join the two ways of computing it. -/
module

public import Idealize.ShloMosaic.Lib.Pointwise

@[expose] public section

noncomputable section

namespace Cert.Proof.Maths

open Idealize.ShloMosaic

/-- The constant one half. -/
theorem half_eq : Ideal.ofBits .f32 0x3F000000#32 = (((1 : ℝ) / 2 : ℝ) : EReal) := by
  simp [Ideal.ofBits, Ideal.ieee, -EReal.coe_mul]; norm_num

/-- The constant 20480, the number of elements of a group. -/
theorem count_eq : Ideal.ofBits .f32 0x46A00000#32 = ((20480 : ℝ) : EReal) := by
  simp [Ideal.ofBits, Ideal.ieee, -EReal.coe_mul]; norm_num

/-- The constant eps is a positive real. -/
theorem eps_pos : ∃ e : ℝ, 0 < e ∧ Ideal.ofBits .f32 0x3727C5AC#32 = (e : EReal) :=
  ⟨10995116 / 2 ^ 40, by norm_num, by simp [Ideal.ofBits, Ideal.ieee, -EReal.coe_mul]; norm_num⟩

/-- The sum over `m * n` consecutive numbers, `n` at a time. -/
theorem sum_blocks {M : Type*} [AddCommMonoid M] (f : ℕ → M) (m n : ℕ) :
    ∑ r ∈ Finset.range (n * m), f r = ∑ i ∈ Finset.range m, ∑ k ∈ Finset.range n, f (n * i + k) := by
  induction m with
  | zero => simp
  | succ m ih => rw [Nat.mul_succ, Finset.sum_range_add, ih, Finset.sum_range_succ]

/-- The 256 rows of an image, visited sublane by sublane. -/
theorem sum_rows {M : Type*} [AddCommMonoid M] (f : ℕ → M) :
    ∑ s : Fin 8, ∑ i ∈ Finset.range 8, ∑ q : Fin 4, f (32 * i + (8 * q.val + s.val)) = ∑ r ∈ Finset.range 256, f r := by
  rw [Finset.sum_comm, show 256 = 32 * 8 from rfl, sum_blocks]
  refine Finset.sum_congr rfl fun i _ => ?_
  rw [Finset.sum_comm, show 32 = 8 * 4 from rfl, sum_blocks (fun k => f (8 * 4 * i + k)), ← Fin.sum_univ_eq_sum_range (fun q => ∑ k ∈ Finset.range 8, f (8 * 4 * i + (8 * q + k)))]
  refine Finset.sum_congr rfl fun q _ => ?_
  exact Fin.sum_univ_eq_sum_range (fun k => f (8 * 4 * i + (8 * q.val + k))) 8

/-- A finite number at least zero multiplies a sum term by term. -/
theorem mul_sum {ι : Type*} {c : EReal} (h0 : 0 ≤ c) (ht : c ≠ ⊤) (S : Finset ι) (f : ι → EReal) : c * ∑ i ∈ S, f i = ∑ i ∈ S, c * f i := by
  classical
  induction S using Finset.induction_on with
  | empty => simp
  | insert a S ha ih => rw [Finset.sum_insert ha, Finset.sum_insert ha, EReal.left_distrib_of_nonneg_of_ne_top h0 ht, ih]

/-- A square is at least zero. -/
theorem mul_self_nonneg (a : EReal) : 0 ≤ a * a := by
  induction a with
  | bot => simp
  | top => simp
  | coe r => rw [← EReal.coe_mul]; exact_mod_cast _root_.mul_self_nonneg r

/-- The reciprocal square root of a positive number is finite and at least zero. -/
theorem rsqrt_pos {a : EReal} (h : 0 < a) : 0 ≤ Ideal.rsqrt a ∧ Ideal.rsqrt a ≠ ⊤ := by
  induction a with
  | bot => simp at h
  | top => simp
  | coe r =>
    have hr : 0 < r := by exact_mod_cast h
    rw [Ideal.rsqrt_coe, if_neg (not_lt.mpr hr.le), if_neg hr.ne']
    exact ⟨by exact_mod_cast inv_nonneg.mpr (Real.sqrt_nonneg r), EReal.coe_ne_top _⟩

/-- The hyperbolic tangent of half a number, from the logistic function. -/
theorem tanh_half (r : ℝ) : Real.tanh (1 / 2 * r) = 2 * (1 + Real.exp (-r))⁻¹ - 1 := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have : a + b ≠ 0 := by positivity
  have : 1 + b * b ≠ 0 := by positivity
  field_simp
  linear_combination (2 * b) * h2

/-- Half of `(1 + tanh u) (1 + u (1 - tanh u))` at `u = h / 2` is `σ(h) (1 + h (1 - σ(h)))`. -/
theorem slope_half (h : EReal) :
    (((1 : ℝ) / 2 : ℝ) : EReal) * ((1 + Ideal.tanh ((((1 : ℝ) / 2 : ℝ) : EReal) * h)) * (1 + (((1 : ℝ) / 2 : ℝ) : EReal) * h * (1 - Ideal.tanh ((((1 : ℝ) / 2 : ℝ) : EReal) * h))))
      = Ideal.logistic h * (1 + h * (1 - Ideal.logistic h)) := by
  have hp : (0 : ℝ) < 1 / 2 := by norm_num
  have e1 : (1 : EReal) = ((1 : ℝ) : EReal) := rfl
  induction h with
  | bot =>
    rw [EReal.coe_mul_bot_of_pos hp, Ideal.tanh_bot, Ideal.logistic_bot, e1, ← EReal.coe_neg, ← EReal.coe_add]
    norm_num
  | top =>
    rw [EReal.coe_mul_top_of_pos hp, Ideal.tanh_top, Ideal.logistic_top, e1, ← EReal.coe_sub, sub_self, EReal.coe_zero, mul_zero, add_zero, ← EReal.coe_add, ← EReal.coe_mul, ← EReal.coe_mul, ← EReal.coe_mul]
    norm_num
  | coe r =>
    rw [← EReal.coe_mul, Ideal.tanh_coe, Ideal.logistic_coe, tanh_half, e1]
    simp only [← EReal.coe_mul, ← EReal.coe_add, ← EReal.coe_sub]
    congr 1
    ring

section Image

variable (x : ℕ → ℕ → EReal)

/-- The mean of group `g` of one image, by row and channel. -/
def mean (g : ℕ) : EReal := (∑ p ∈ Finset.Ico (80 * g) (80 * g + 80), ∑ r ∈ Finset.range 256, x r p) * ((1 / 20480 : ℝ) : EReal)

/-- An element less the mean of its group. -/
def cent (r ch : ℕ) : EReal := x r ch - mean x (ch / 80)

/-- The variance of group `g`, plus a small constant. -/
def vare (g : ℕ) : EReal :=
  (∑ p ∈ Finset.Ico (80 * g) (80 * g + 80), ∑ r ∈ Finset.range 256, cent x r p * cent x r p) * ((1 / 20480 : ℝ) : EReal) + Ideal.ofBits .f32 0x3727C5AC#32

/-- The reciprocal standard deviation of group `g`. -/
def rstd (g : ℕ) : EReal := Ideal.rsqrt (vare x g)

/-- The variance plus eps is positive. -/
theorem vare_pos (g : ℕ) : 0 < vare x g := by
  obtain ⟨e, he, h⟩ := eps_pos
  rw [vare, h]
  have h1 : 0 ≤ (∑ p ∈ Finset.Ico (80 * g) (80 * g + 80), ∑ r ∈ Finset.range 256, cent x r p * cent x r p) * ((1 / 20480 : ℝ) : EReal) :=
    mul_nonneg (Finset.sum_nonneg fun _ _ => Finset.sum_nonneg fun _ _ => mul_self_nonneg _) (by exact_mod_cast (by norm_num : (0 : ℝ) ≤ 1 / 20480))
  exact lt_of_lt_of_le (by exact_mod_cast he : (0 : EReal) < e) (le_add_of_nonneg_left h1)

/-- The reciprocal deviation is at least zero and not +inf. -/
theorem rstd_ok (g : ℕ) : 0 ≤ rstd x g ∧ rstd x g ≠ ⊤ := rsqrt_pos (vare_pos x g)

variable (d : ℕ → ℕ → EReal) (ga be : ℕ → EReal) (s : EReal)

/-- What the activation is applied to. -/
def pre (r ch : ℕ) : EReal := cent x r ch * rstd x (ch / 80) * ga ch + be ch

/-- The gradient with respect to `pre`. -/
def dh (r ch : ℕ) : EReal :=
  d r ch * s * Ideal.logistic (pre x ga be r ch) * (1 + pre x ga be r ch * (1 - Ideal.logistic (pre x ga be r ch)))

/-- The same gradient's unscaled half-angle form. -/
def dhu (r ch : ℕ) : EReal :=
  let u := cent x r ch * (Ideal.ofBits .f32 0x3F000000#32 * rstd x (ch / 80) * ga ch) + Ideal.ofBits .f32 0x3F000000#32 * be ch
  d r ch * ((1 + Ideal.tanh u) * (1 + u * (1 - Ideal.tanh u)))

/-- One image's part of the gradient of `beta`. -/
def gradB (ch : ℕ) : EReal := ∑ r ∈ Finset.range 256, dh x d ga be s r ch

/-- One image's part of the gradient of `gamma`. -/
def gradG (ch : ℕ) : EReal := ∑ r ∈ Finset.range 256, dh x d ga be s r ch * (cent x r ch * rstd x (ch / 80))

/-- The kernel's argument of tanh is half of the reference's `h`. -/
theorem half_pre (r ch : ℕ) :
    cent x r ch * (Ideal.ofBits .f32 0x3F000000#32 * rstd x (ch / 80) * ga ch) + Ideal.ofBits .f32 0x3F000000#32 * be ch
      = (((1 : ℝ) / 2 : ℝ) : EReal) * pre x ga be r ch := by
  rw [half_eq, pre, EReal.left_distrib_of_nonneg_of_ne_top (by exact_mod_cast (by norm_num : (0 : ℝ) ≤ 1 / 2)) (EReal.coe_ne_top _)]
  congr 1
  ac_rfl

/-- Half the scale times the kernel's unscaled gradient is the reference's gradient. -/
theorem dhu_scaled (r ch : ℕ) : Ideal.ofBits .f32 0x3F000000#32 * s * dhu x d ga be r ch = dh x d ga be s r ch := by
  simp only [dhu, half_pre]
  rw [half_eq, dh, mul_assoc (d r ch * s), ← slope_half]
  ac_rfl

variable {s} (h0 : 0 ≤ s) (ht : s ≠ ⊤)

include h0 ht

/-- Half the scale is at least zero and not +inf. -/
theorem scale_ok : 0 ≤ Ideal.ofBits .f32 0x3F000000#32 * s ∧ Ideal.ofBits .f32 0x3F000000#32 * s ≠ ⊤ := by
  rw [half_eq]
  lift s to ℝ using ⟨ht, fun e => by simp [e] at h0⟩
  have : 0 ≤ s := by exact_mod_cast h0
  rw [← EReal.coe_mul]
  exact ⟨by exact_mod_cast (by positivity : 0 ≤ 1 / 2 * s), EReal.coe_ne_top _⟩

/-- The gradient of `beta`, sublane by sublane with the scale outside. -/
theorem sum_gradB (ch : ℕ) :
    ∑ k : Fin 8, Ideal.ofBits .f32 0x3F000000#32 * s * ∑ i ∈ Finset.range 8, ∑ q : Fin 4, dhu x d ga be (32 * i + (8 * q.val + k.val)) ch
      = gradB x d ga be s ch := by
  obtain ⟨c0, ct⟩ := scale_ok h0 ht
  simp only [mul_sum c0 ct, dhu_scaled]
  exact sum_rows fun r => dh x d ga be s r ch

/-- The gradient of `gamma`, sublane by sublane with the scale and the reciprocal standard deviation outside. -/
theorem sum_gradG (ch : ℕ) :
    ∑ k : Fin 8, Ideal.ofBits .f32 0x3F000000#32 * s * rstd x (ch / 80)
        * ∑ i ∈ Finset.range 8, ∑ q : Fin 4, dhu x d ga be (32 * i + (8 * q.val + k.val)) ch * cent x (32 * i + (8 * q.val + k.val)) ch
      = gradG x d ga be s ch := by
  obtain ⟨c0, ct⟩ := scale_ok h0 ht
  obtain ⟨r0, rt⟩ := rstd_ok x (ch / 80)
  have e : ∀ r, Ideal.ofBits .f32 0x3F000000#32 * s * (rstd x (ch / 80) * (dhu x d ga be r ch * cent x r ch))
      = dh x d ga be s r ch * (cent x r ch * rstd x (ch / 80)) := fun r => by rw [← dhu_scaled]; ac_rfl
  simp only [mul_assoc _ (rstd x (ch / 80)), mul_sum r0 rt, mul_sum c0 ct, e]
  exact sum_rows fun r => dh x d ga be s r ch * (cent x r ch * rstd x (ch / 80))

end Image

end Cert.Proof.Maths

end
-- ==== Proof.KernForm.lean ====
/- The kernel's running sums, element by element: each image adds its part of the two gradients. -/
module

public import proofs.«01_k».proof.Proof.Launch
public import proofs.«01_k».proof.Proof.Maths

@[expose] public section

noncomputable section

namespace Cert.Proof.KernelIdeal.Value

open Cert.KernelIdeal Cert.KernelIdeal.Gen Cert.Proof.KernelIdeal
open Idealize.ShloMosaic Idealize.ShloMosaic.TcCoe
open Cert.Proof

set_option maxHeartbeats 1000000

/-- The named constant is 1/20480. -/
theorem inv_eq : Named.named (F := Ideal) κ "inv_n" (φ := .f32) 0x384CCCCD#32 = ((1 / 20480 : ℝ) : EReal) := rfl

/-- The zero tile is zero. -/
theorem zeroT_apply (y : S8x128.Idx) : zeroT y = 0 := by
  show Ideal.ofBits .f32 0x00000000#32 = 0
  exact Ideal.ofBits_zero_f32

/-- Sums over row blocks that begin at zero. -/
theorem rows_zero (g : ℕ → Fin 128 → EReal) (s : Fin 8) (l : Fin 128) :
    rows g 8 zeroT (ix2 s l) = ∑ i ∈ Finset.range 8, ∑ q : Fin 4, g (32 * i + (8 * q.val + s.val)) l := by
  rw [rows_apply, zeroT_apply, zero_add]

section Chunk

variable (x2 : Vec Ideal S1x256x2560 .bf16) (x3 : Vec Ideal S1x256x2560 .fp8e5m2) (t j : ℕ) (hj : j < 5)

/-- An element of the image's incoming gradient, by row and channel. -/
abbrev xk : ℕ → ℕ → EReal := at3 (e := .bf16) x2 (0 : EReal)
abbrev dk : ℕ → ℕ → EReal := at3 (e := .fp8e5m2) x3 (0 : EReal)

/-- The group total of row sums kept tile by tile is the sum over the group's channels and all rows. -/
theorem gsum_rows (g : ℕ → ℕ → Fin 128 → EReal) (f : ℕ → ℕ → EReal) (G : ℕ) (hG : G < 8)
    (h : ∀ r p, p < 640 → p / 80 = G → g (p / 128) r ⟨p % 128, Nat.mod_lt _ (by norm_num)⟩ = f r (640 * t + p)) :
    gsum (fun j => rows (g j) 8 zeroT) G = ∑ p ∈ Finset.Ico (80 * (8 * t + G)) (80 * (8 * t + G) + 80), ∑ r ∈ Finset.range 256, f r p := by
  rw [show 80 * (8 * t + G) = 80 * G + 640 * t from by ring, show 80 * G + 640 * t + 80 = 80 * G + 80 + 640 * t from by ring,
    ← Finset.sum_Ico_add (fun p => ∑ r ∈ Finset.range 256, f r p)]
  refine Finset.sum_congr rfl fun p hp => ?_
  rw [Finset.mem_Ico] at hp
  simp only [chan, rows_zero]
  rw [Maths.sum_rows fun r => g (p / 128) r ⟨p % 128, Nat.mod_lt _ (by norm_num)⟩]
  exact Finset.sum_congr rfl fun r _ => h r p (by omega) (by omega)

/-- One element of `x` at a channel of the chunk. -/
theorem gx_at (r p : ℕ) : gx x2 t (p / 128) r ⟨p % 128, Nat.mod_lt _ (by norm_num)⟩ = xk x2 r (640 * t + p) := by
  rw [gx]
  congr 1
  dsimp only
  omega

/-- The group of a lane of a tile. -/
theorem group_of (l : Fin 128) : (640 * t + 128 * j + l.val) / 80 = 8 * t + (128 * j + l.val) / 80 := by omega

include hj in
theorem meanT_apply (s : Fin 8) (l : Fin 128) : meanT x2 t j (ix2 s l) = Maths.mean (xk x2) ((640 * t + 128 * j + l.val) / 80) := by
  have e : meanT x2 t j (ix2 s l) = grp (fun j => rows (gx x2 t j) 8 zeroT) j (ix2 s l) * Named.named (F := Ideal) κ "inv_n" (φ := .f32) 0x384CCCCD#32 := rfl
  rw [e, inv_eq, grp_apply _ s l j hj, group_of, Maths.mean, gsum_rows t (fun j => gx x2 t j) (xk x2) _ (by omega) fun r p _ _ => gx_at x2 t r p]

/-- One centred element at a channel of the chunk. -/
theorem gxc_at (j : ℕ) (hj : j < 5) (r : ℕ) (l : Fin 128) : gxc x2 t j (meanT x2 t j) r l = Maths.cent (xk x2) r (640 * t + 128 * j + l.val) := by
  rw [gxc, meanT_apply x2 t j hj, Maths.cent]

include hj in
theorem rstdT_apply (s : Fin 8) (l : Fin 128) : rstdT x2 t j (ix2 s l) = Maths.rstd (xk x2) ((640 * t + 128 * j + l.val) / 80) := by
  have e : rstdT x2 t j (ix2 s l)
      = Ideal.rsqrt (grp (fun j => rows (gsq x2 t j (meanT x2 t j)) 8 zeroT) j (ix2 s l) * Named.named (F := Ideal) κ "inv_n" (φ := .f32) 0x384CCCCD#32
        + Ideal.ofBits .f32 0x3727C5AC#32) := rfl
  rw [e, inv_eq, grp_apply _ s l j hj, group_of, Maths.rstd, Maths.vare,
    gsum_rows t (fun j => gsq x2 t j (meanT x2 t j)) (fun r p => Maths.cent (xk x2) r p * Maths.cent (xk x2) r p) _ (by omega) fun r p hp _ => ?_]
  have : 640 * t + 128 * (p / 128) + p % 128 = 640 * t + p := by omega
  simp only [gsq, gxc_at x2 t (p / 128) (by omega), this]

variable (ga be : Vec Ideal S1x2560 .f32) (s12 : EReal)

/-- One lane of a tile of a row of channels. -/
theorem rowT_apply (l : Fin 128) : rowT ga t j (ix2 0 l) = at1 ga (640 * t + 128 * j + l.val) := rfl

include hj in
theorem uaT_apply (l : Fin 128) : uaT x2 t j (rowT ga t j) (ix2 0 l)
    = Ideal.ofBits .f32 0x3F000000#32 * Maths.rstd (xk x2) ((640 * t + 128 * j + l.val) / 80) * at1 ga (640 * t + 128 * j + l.val) := by
  rw [← rstdT_apply x2 t j hj 0 l, ← rowT_apply]
  pointwise [uaT]

/-- One lane of half of beta. -/
theorem ubT_apply (l : Fin 128) : ubT (rowT be t j) (ix2 0 l) = Ideal.ofBits .f32 0x3F000000#32 * at1 be (640 * t + 128 * j + l.val) := by
  rw [← rowT_apply]
  pointwise [ubT]

include hj in
theorem gdh_at (r : ℕ) (l : Fin 128) :
    gdh x2 x3 t j (meanT x2 t j) (uaT x2 t j (rowT ga t j)) (ubT (rowT be t j)) r l
      = Maths.dhu (xk x2) (dk x3) (at1 ga) (at1 be) r (640 * t + 128 * j + l.val) := by
  rw [gdh, gxc_at x2 t j hj, uaT_apply x2 t j hj, ubT_apply]
  rfl

include hj in
theorem dbT_apply (k : Fin 8) (l : Fin 128) : dbT x2 x3 t j (rowT ga t j) (rowT be t j) s12 (ix2 k l)
    = Ideal.ofBits .f32 0x3F000000#32 * s12
      * ∑ i ∈ Finset.range 8, ∑ q : Fin 4, Maths.dhu (xk x2) (dk x3) (at1 ga) (at1 be) (32 * i + (8 * q.val + k.val)) (640 * t + 128 * j + l.val) := by
  have e : dbT x2 x3 t j (rowT ga t j) (rowT be t j) s12 (ix2 k l) = Ideal.ofBits .f32 0x3F000000#32 * s12
      * rows (gdh x2 x3 t j (meanT x2 t j) (uaT x2 t j (rowT ga t j)) (ubT (rowT be t j))) 8 zeroT (ix2 k l) := rfl
  rw [e, rows_zero]
  simp only [gdh_at x2 x3 t j hj]

include hj in
theorem dgT_apply (k : Fin 8) (l : Fin 128) : dgT x2 x3 t j (rowT ga t j) (rowT be t j) s12 (ix2 k l)
    = Ideal.ofBits .f32 0x3F000000#32 * s12 * Maths.rstd (xk x2) ((640 * t + 128 * j + l.val) / 80)
      * ∑ i ∈ Finset.range 8, ∑ q : Fin 4, Maths.dhu (xk x2) (dk x3) (at1 ga) (at1 be) (32 * i + (8 * q.val + k.val)) (640 * t + 128 * j + l.val)
        * Maths.cent (xk x2) (32 * i + (8 * q.val + k.val)) (640 * t + 128 * j + l.val) := by
  have e : dgT x2 x3 t j (rowT ga t j) (rowT be t j) s12 (ix2 k l) = Ideal.ofBits .f32 0x3F000000#32 * s12 * rstdT x2 t j (ix2 k l)
      * rows (gdhx x2 x3 t j (meanT x2 t j) (uaT x2 t j (rowT ga t j)) (ubT (rowT be t j))) 8 zeroT (ix2 k l) := rfl
  rw [e, rows_zero, rstdT_apply x2 t j hj]
  simp only [gdhx, gdh_at x2 x3 t j hj, gxc_at x2 t j hj]

end Chunk

/-- After `k` chunks every channel of those chunks has its tile added. -/
theorem chunks_apply (A : ℕ → Vec Ideal S8x2560 .f32) (T : ℕ → ℕ → T8) (h : ∀ t, A (t + 1) = addChunk (A t) t (T t)) (n : ℕ) (k : Fin 8) (ch : Fin 2560) :
    A n (ix2 k ch) = A 0 (ix2 k ch)
      + if ch.val < 640 * n then T (ch.val / 640) (ch.val % 640 / 128) (ix2 k ⟨ch.val % 640 % 128, Nat.mod_lt _ (by norm_num)⟩) else 0 := by
  induction n with
  | zero => simp
  | succ n ih =>
    rw [h]
    have e : addChunk (A n) n (T n) (ix2 k ch) = if 640 * n ≤ ch.val ∧ ch.val < 640 * n + 640 then
      A n (ix2 k ch) + T n ((ch.val - 640 * n) / 128) (ix2 k ⟨(ch.val - 640 * n) % 128, Nat.mod_lt _ (by norm_num)⟩) else A n (ix2 k ch) := rfl
    rw [e, ih]
    by_cases h1 : ch.val < 640 * n
    · rw [if_neg (by omega), if_pos h1, if_pos (by omega)]
    · by_cases h2 : ch.val < 640 * n + 640
      · have e1 : ch.val - 640 * n = ch.val % 640 := by omega
        have e2 : ch.val / 640 = n := by omega
        rw [if_pos (by omega), if_neg h1, if_pos (by omega), add_zero]
        simp only [e1, e2]
      · rw [if_neg (by omega), if_neg h1, if_neg (by omega)]

section Run

variable (X : Vec Ideal S20x256x2560 .bf16) (D : Vec Ideal S20x256x2560 .fp8e5m2) (ga be : Vec Ideal S1x2560 .f32) (s : Ideal .f32)

/-- The zero accumulator is zero. -/
theorem zero8_apply (y : S8x2560.Idx) : zero8 y = 0 := rfl

/-- The `dbeta` accumulator after `n` images. -/
theorem accB_apply (n : ℕ) (k : Fin 8) (ch : Fin 2560) : accB X D ga be s n (ix2 k ch)
    = ∑ b ∈ Finset.range n, Ideal.ofBits .f32 0x3F000000#32 * (s : EReal)
      * ∑ i ∈ Finset.range 8, ∑ q : Fin 4, Maths.dhu (xk (image X b)) (dk (image D b)) (at1 ga) (at1 be) (32 * i + (8 * q.val + k.val)) ch.val := by
  induction n with
  | zero => exact zero8_apply _
  | succ n ih =>
    rw [Finset.sum_range_succ, ← ih, accB]
    refine (chunks_apply (sumB (image X n) (image D n) ga be s (accB X D ga be s n)) _ (fun t => rfl) 4 k ch).trans ?_
    rw [if_pos (by have := ch.isLt; omega), dbT_apply _ _ _ _ (by omega)]
    have e : 640 * (ch.val / 640) + 128 * (ch.val % 640 / 128) + ch.val % 640 % 128 = ch.val := by omega
    simp only [e]
    rfl

/-- The `dgamma` accumulator after `n` images. -/
theorem accG_apply (n : ℕ) (k : Fin 8) (ch : Fin 2560) : accG X D ga be s n (ix2 k ch)
    = ∑ b ∈ Finset.range n, Ideal.ofBits .f32 0x3F000000#32 * (s : EReal) * Maths.rstd (xk (image X b)) (ch.val / 80)
      * ∑ i ∈ Finset.range 8, ∑ q : Fin 4, Maths.dhu (xk (image X b)) (dk (image D b)) (at1 ga) (at1 be) (32 * i + (8 * q.val + k.val)) ch.val
        * Maths.cent (xk (image X b)) (32 * i + (8 * q.val + k.val)) ch.val := by
  induction n with
  | zero => exact zero8_apply _
  | succ n ih =>
    rw [Finset.sum_range_succ, ← ih, accG]
    refine (chunks_apply (sumG (image X n) (image D n) ga be s (accG X D ga be s n)) _ (fun t => rfl) 4 k ch).trans ?_
    rw [if_pos (by have := ch.isLt; omega), dgT_apply _ _ _ _ (by omega)]
    have e : 640 * (ch.val / 640) + 128 * (ch.val % 640 / 128) + ch.val % 640 % 128 = ch.val := by omega
    simp only [e]
    rfl

/-- A column sum, at a channel. -/
theorem colsum_apply (A : Vec Ideal S8x2560 .f32) (ch : Fin 2560) : colsum A (ix2 0 ch) = ∑ k : Fin 8, A (ix2 k ch) := by
  pointwise [colsum, k0_pay12]

variable (h0 : (0 : EReal) ≤ s) (ht : (s : EReal) ≠ ⊤)

include h0 ht

/-- The kernel's gradient of `beta` at each channel. -/
theorem resultB (ch : Fin 2560) : colsum (accB X D ga be s 20) (ix2 0 ch)
    = ∑ b ∈ Finset.range 20, Maths.gradB (xk (image X b)) (dk (image D b)) (at1 ga) (at1 be) s ch.val := by
  rw [colsum_apply]
  simp only [accB_apply]
  rw [Finset.sum_comm]
  exact Finset.sum_congr rfl fun b _ => Maths.sum_gradB _ _ _ _ h0 ht _

/-- The kernel's gradient of `gamma` at each channel. -/
theorem resultG (ch : Fin 2560) : colsum (accG X D ga be s 20) (ix2 0 ch)
    = ∑ b ∈ Finset.range 20, Maths.gradG (xk (image X b)) (dk (image D b)) (at1 ga) (at1 be) s ch.val := by
  rw [colsum_apply]
  simp only [accG_apply]
  rw [Finset.sum_comm]
  exact Finset.sum_congr rfl fun b _ => Maths.sum_gradG _ _ _ _ h0 ht _

end Run

end Cert.Proof.KernelIdeal.Value

end
-- ==== Proof.RefForm.lean ====
/- The reference's payloads, element by element. -/
module

public import proofs.«01_k».proof.Proof.Gen.ReferenceIdeal.Skeleton
public import proofs.«01_k».proof.Proof.Maths
public import Idealize.ShloMosaic.Lib.Pointwise
public import Idealize.ShloMosaic.Lib.WholeRead
public import Idealize.ShloMosaic.Lib.Tactic

@[expose] public section

noncomputable section

namespace Cert.Proof.ReferenceIdeal

open Cert.ReferenceIdeal Cert.ReferenceIdeal.Gen
open Idealize.ShloMosaic Idealize.ShloMosaic.TcCoe
open Cert.Proof

set_option maxHeartbeats 1000000

/-- A sum over rows and channels of a group, at image `b` and group `g`. -/
theorem reduce_group (h : S20x256x32x80.Reduces [1, 3] S20x32) (v : S20x256x32x80.Idx → EReal) (b : Fin 20) (g : Fin 32) :
    Ideal.reduceAdd h v (ix2 b g) = ∑ r : Fin 256, ∑ p : Fin 80, v (ix4 b r g p) := by
  refine (Finset.sum_filter_eq_sum_of_fiber _ (fun k : Fin 256 × Fin 80 => (ix4 b k.1 g k.2 : S20x256x32x80.Idx))
    (fun _ _ e => Prod.ext (congrFun e 1) (congrFun e 3)) (fun i => ?_) v).trans (by simp only [Fintype.sum_prod_type])
  constructor
  · intro e
    refine ⟨(i 1, i 3), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

/-- A sum over images and rows, at channel `p` of group `g`. -/
theorem reduce_rows (h : S20x256x32x80.Reduces [0, 1] S32x80) (v : S20x256x32x80.Idx → EReal) (g : Fin 32) (p : Fin 80) :
    Ideal.reduceAdd h v (ix2 g p) = ∑ b : Fin 20, ∑ r : Fin 256, v (ix4 b r g p) := by
  refine (Finset.sum_filter_eq_sum_of_fiber _ (fun k : Fin 20 × Fin 256 => (ix4 k.1 k.2 g p : S20x256x32x80.Idx))
    (fun _ _ e => Prod.ext (congrFun e 0) (congrFun e 1)) (fun i => ?_) v).trans (by simp only [Fintype.sum_prod_type])
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext b
    apply Fin.ext
    match b with
    | ⟨0, _⟩ => rfl
    | ⟨1, _⟩ => rfl

/-- The element of image `b` at row `r` and channel `ch`. -/
def at4 {e : EltTy} (X : Vec Ideal S20x256x2560 e) (z : Elt Ideal e) (b : Fin 20) (r ch : ℕ) : Elt Ideal e :=
  if h : r < 256 ∧ ch < 2560 then X (ix3 b ⟨r, h.1⟩ ⟨ch, h.2⟩) else z

/-- The element of a row of 2560 channels. -/
def at2 (x : Vec Ideal S1x2560 .f32) (ch : ℕ) : EReal := if h : ch < 2560 then x (ix2 0 ⟨ch, h⟩) else 0

/-- An array read at natural numbers, in range. -/
theorem at4_eq {e : EltTy} (X : Vec Ideal S20x256x2560 e) (z : Elt Ideal e) (b : Fin 20) (r : Fin 256) (ch : ℕ) (h : ch < 2560) :
    X (ix3 b r ⟨ch, h⟩) = at4 X z b r.val ch := by
  rw [at4, dif_pos ⟨r.isLt, h⟩]

/-- Division by 20480 is multiplication by its reciprocal. -/
theorem div_count (a : EReal) : Ideal.div a (Ideal.ofBits .f32 0x46A00000#32) = a * ((1 / 20480 : ℝ) : EReal) := by
  rw [Maths.count_eq, Ideal.div, if_neg (by exact_mod_cast (by norm_num : (20480 : ℝ) ≠ 0)), ← EReal.coe_inv, one_div]

/-- The channels of group `g` visited in order, rows outside, are the group's sum. -/
theorem group_sum (f : ℕ → ℕ → EReal) (g : ℕ) :
    ∑ r : Fin 256, ∑ p : Fin 80, f r.val (g * 80 + p.val) = ∑ p ∈ Finset.Ico (80 * g) (80 * g + 80), ∑ r ∈ Finset.range 256, f r p := by
  rw [Fin.sum_univ_eq_sum_range (fun r => ∑ p : Fin 80, f r (g * 80 + p.val)) 256, Finset.sum_comm' (t' := Finset.Ico (80 * g) (80 * g + 80)) (s' := fun _ => Finset.range 256) (s := Finset.range 256) (t := fun _ => Finset.Ico (80 * g) (80 * g + 80)) (by tauto) |>.symm]
  refine Finset.sum_congr rfl fun r _ => ?_
  rw [Fin.sum_univ_eq_sum_range (fun p => f r (g * 80 + p)) 80, Finset.sum_Ico_eq_sum_range, Nat.add_sub_cancel_left]
  simp only [mul_comm g 80]

section

variable (X : Vec Ideal S20x256x2560 .bf16) (D : Vec Ideal S20x256x2560 .fp8e5m2) (s : Elt Ideal .f32) (ga be : Vec Ideal S1x2560 .f32)

/-- Image `b` of `x`, read at natural numbers. -/
abbrev xs (b : Fin 20) : ℕ → ℕ → EReal := at4 (e := .bf16) X (0 : EReal) b
abbrev ds (b : Fin 20) : ℕ → ℕ → EReal := at4 (e := .fp8e5m2) D (0 : EReal) b

/-- One normalised element. -/
theorem xhat_apply (b : Fin 20) (r : Fin 256) (g : Fin 32) (p : Fin 80) :
    k0_pay4 (F := Ideal) X (ix4 b r g p)
      = Maths.cent (xs X b) r.val (g.val * 80 + p.val) * Maths.rstd (xs X b) g.val := by
  have hg : ∀ q : Fin 80, (g.val * 80 + q.val) / 80 = g.val := fun q => by omega
  pointwise [k0_pay4]
  simp only [div_count, reduce_group]
  pointwise
  simp only [div_count, reduce_group]
  pointwise
  simp only [at4_eq X (0 : EReal)]
  rw [group_sum (xs X b), Maths.rstd, Maths.vare, ← group_sum (fun r p => Maths.cent (xs X b) r p * Maths.cent (xs X b) r p)]
  simp only [Maths.cent, hg, Maths.mean]

/-- `dbeta` at a channel, as a sum. -/
theorem dbeta_apply (v36 v41 : FVec Ideal S20x256x32x80 .f32) (ch : Fin 2560) :
    k0_pay3 (F := Ideal) v36 v41 (ix2 0 ch)
      = ∑ b : Fin 20, ∑ r : Fin 256, v36 (ix4 b r ⟨ch.val / 80, by omega⟩ ⟨ch.val % 80, by omega⟩) * v41 (ix4 b r ⟨ch.val / 80, by omega⟩ ⟨ch.val % 80, by omega⟩) := by
  pointwise [k0_pay3, k0_pay1]
  exact reduce_rows _ _ _ _

/-- `dgamma` at a channel, as a sum. -/
theorem dgamma_apply (v24 v36 v41 : FVec Ideal S20x256x32x80 .f32) (ch : Fin 2560) :
    k0_pay2 (F := Ideal) v24 v36 v41 (ix2 0 ch)
      = ∑ b : Fin 20, ∑ r : Fin 256, v36 (ix4 b r ⟨ch.val / 80, by omega⟩ ⟨ch.val % 80, by omega⟩) * v41 (ix4 b r ⟨ch.val / 80, by omega⟩ ⟨ch.val % 80, by omega⟩)
        * v24 (ix4 b r ⟨ch.val / 80, by omega⟩ ⟨ch.val % 80, by omega⟩) := by
  pointwise [k0_pay2, k0_pay1]
  exact reduce_rows _ _ _ _

/-- One element of `h`. -/
theorem pre_apply (b : Fin 20) (r : Fin 256) (g : Fin 32) (p : Fin 80) :
    k0_pay5 (F := Ideal) X ga be (ix4 b r g p)
      = k0_pay4 (F := Ideal) X (ix4 b r g p) * at2 ga (g.val * 80 + p.val) + at2 be (g.val * 80 + p.val) := by
  pointwise [k0_pay5]
  rw [at2, at2, dif_pos (by omega), dif_pos (by omega)]

/-- One element of the incoming gradient times the logistic function. -/
theorem dyn_apply (b : Fin 20) (r : Fin 256) (g : Fin 32) (p : Fin 80) :
    k0_pay7 (F := Ideal) X D s ga be (ix4 b r g p)
      = ds D b r.val (g.val * 80 + p.val) * s * Ideal.logistic (k0_pay5 (F := Ideal) X ga be (ix4 b r g p)) := by
  pointwise [k0_pay7, k0_pay6]
  rw [at4_eq D (0 : EReal)]

/-- One element of the slope's second factor. -/
theorem fac_apply (b : Fin 20) (r : Fin 256) (g : Fin 32) (p : Fin 80) :
    k0_pay8 (F := Ideal) X ga be (ix4 b r g p)
      = 1 + k0_pay5 (F := Ideal) X ga be (ix4 b r g p) * (1 - Ideal.logistic (k0_pay5 (F := Ideal) X ga be (ix4 b r g p))) := by
  pointwise [k0_pay8, k0_pay6]

/-- One element of the gradient of `h`. -/
theorem dh_apply (b : Fin 20) (r : Fin 256) (ch : Fin 2560) :
    k0_pay7 (F := Ideal) X D s ga be (ix4 b r ⟨ch.val / 80, by omega⟩ ⟨ch.val % 80, by omega⟩)
        * k0_pay8 (F := Ideal) X ga be (ix4 b r ⟨ch.val / 80, by omega⟩ ⟨ch.val % 80, by omega⟩)
      = Maths.dh (xs X b) (ds D b) (at2 ga) (at2 be) s r.val ch.val := by
  have e : ch.val / 80 * 80 + ch.val % 80 = ch.val := by omega
  rw [dyn_apply, fac_apply, pre_apply, xhat_apply]
  simp only [e]
  rfl

/-- The reference's gradient of `beta` at each channel. -/
theorem resultB (ch : Fin 2560) : k0_pay3 (F := Ideal) (k0_pay7 X D s ga be) (k0_pay8 X ga be) (ix2 0 ch)
    = ∑ b : Fin 20, Maths.gradB (xs X b) (ds D b) (at2 ga) (at2 be) s ch.val := by
  rw [dbeta_apply]
  simp only [dh_apply]
  exact Finset.sum_congr rfl fun b _ => Fin.sum_univ_eq_sum_range (fun r => Maths.dh (xs X b) (ds D b) (at2 ga) (at2 be) s r ch.val) 256

/-- The reference's gradient of `gamma` at each channel. -/
theorem resultG (ch : Fin 2560) : k0_pay2 (F := Ideal) (k0_pay4 X) (k0_pay7 X D s ga be) (k0_pay8 X ga be) (ix2 0 ch)
    = ∑ b : Fin 20, Maths.gradG (xs X b) (ds D b) (at2 ga) (at2 be) s ch.val := by
  have e : ch.val / 80 * 80 + ch.val % 80 = ch.val := by omega
  rw [dgamma_apply]
  simp only [dh_apply, xhat_apply, e]
  exact Finset.sum_congr rfl fun b _ =>
    Fin.sum_univ_eq_sum_range (fun r => Maths.dh (xs X b) (ds D b) (at2 ga) (at2 be) s r ch.val * (Maths.cent (xs X b) r ch.val * Maths.rstd (xs X b) (ch.val / 80))) 256

end

end Cert.Proof.ReferenceIdeal

end
-- ==== Proof.RefValue.lean ====
/- The reference's run: its two results are its payloads of the arrays it is given. -/
module

public import proofs.«01_k».proof.Proof.Gen.ReferenceIdeal.Frame
public import Idealize.ShloMosaic.Lib.Pipeline.Value
public import Idealize.ShloMosaic.Lib.Pipeline.ValueKit.Geometry
public import Idealize.ShloMosaic.Lib.Pointwise
public import Idealize.ShloMosaic.Lib.WholeRead
public import Idealize.ShloMosaic.Lib.Tactic

@[expose] public section

noncomputable section

namespace Cert.Proof.ReferenceIdeal.Value

open Cert.ReferenceIdeal Cert.ReferenceIdeal.Gen
open Idealize.ShloMosaic Idealize.ShloMosaic.TcCoe Idealize.SL.Sem
open Idealize.ShloMosaic.Pipeline (Dat)

set_option maxHeartbeats 1000000

variable (m : (ℓ : Loc nD τ sig) → Buf (Elt Ideal) ℓ) (ρ : Dev nD → PrngReg)

/-- The zero offset. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The scale read from its array of one element. -/
theorem ld1 (x : Vec Ideal S1 .f32) {n : Fin 1 → ℕ} (inb : ∀ a, (![0] : Fin 1 → ℕ) a + n a ≤ S1.size a) (y) :
    View.ld x (Rect.unit (s := S1) ![0] n inb) y = x (ix1 0) :=
  congrArg x (funext fun a => by fin_cases a; exact Subsingleton.elim (α := Fin 1) _ _)

section Out

variable (c : Dev nD) (arg0 : Memref sig .tc .smem S1 .f32) (harg0 : arg0.IsWhole) (arg1 : Memref sig .tc .vmem S20x256x2560 .bf16) (harg1 : arg1.IsWhole)
  (arg2 : Memref sig .tc .vmem S20x256x2560 .fp8e5m2) (harg2 : arg2.IsWhole) (arg3 : Memref sig .tc .vmem S1x2560 .f32) (harg3 : arg3.IsWhole)
  (arg4 : Memref sig .tc .vmem S1x2560 .f32) (harg4 : arg4.IsWhole) (arg5 : Memref sig .tc .vmem S1x2560 .f32) (harg5 : arg5.IsWhole)
  (arg6 : Memref sig .tc .vmem S1x2560 .f32) (harg6 : arg6.IsWhole)
  (x0 : Vec Ideal S1 .f32) (x1 : Vec Ideal S20x256x2560 .bf16) (x2 : Vec Ideal S20x256x2560 .fp8e5m2) (x3 x4 : Vec Ideal S1x2560 .f32)

/-- The `dgamma` that the body stores. -/
theorem out5 : out0_A_5 c arg0 harg0 arg1 harg1 arg2 harg2 arg3 harg3 arg4 harg4 arg5 harg5 arg6 harg6 x0 x1 x2 x3 x4
    = k0_pay2 (k0_pay4 x1) (k0_pay7 x1 x2 (x0 (ix1 0)) x3 x4) (k0_pay8 x1 x3 x4) := by
  unfold out0_A_5
  rw [View.read_writes_eq_canon _ _ _ (cover0_A_5 c arg0 harg0 arg1 harg1 arg2 harg2 arg3 harg3 arg4 harg4 arg5 harg5 arg6 harg6 x0 x1 x2 x3 x4)]
  unfold kernelRun0_A
  dsimp only
  sl_unfold_words
  rw [View.canon_unit_zero hz2]
  simp only [View.readAt_eq_ld, harg0.read_unread, harg1.read_unread, harg2.read_unread, harg3.read_unread, harg4.read_unread,
    View.ld_unit_zero (S := S20x256x2560) hz3, View.ld_unit_zero (S := S1x2560) hz2]
  rw [ld1]

/-- The `dbeta` that the body stores. -/
theorem out6 : out0_A_6 c arg0 harg0 arg1 harg1 arg2 harg2 arg3 harg3 arg4 harg4 arg5 harg5 arg6 harg6 x0 x1 x2 x3 x4
    = k0_pay3 (k0_pay7 x1 x2 (x0 (ix1 0)) x3 x4) (k0_pay8 x1 x3 x4) := by
  unfold out0_A_6
  rw [View.read_writes_eq_canon _ _ _ (cover0_A_6 c arg0 harg0 arg1 harg1 arg2 harg2 arg3 harg3 arg4 harg4 arg5 harg5 arg6 harg6 x0 x1 x2 x3 x4)]
  unfold kernelRun0_A
  dsimp only
  sl_unfold_words
  rw [View.canon_unit_zero hz2]
  simp only [View.readAt_eq_ld, harg0.read_unread, harg1.read_unread, harg2.read_unread, harg3.read_unread, harg4.read_unread,
    View.ld_unit_zero (S := S20x256x2560) hz3, View.ld_unit_zero (S := S1x2560) hz2]
  rw [ld1]

end Out

/-- The one point of the launch. -/
abbrev t0 : Fin cfg0.N := ⟨0, by decide⟩

/-- The block of the scale is the whole array. -/
theorem blk0 (c : Dev nD) : iblk m c 0 t0 = V m c main_v0 := by
  unfold iblk
  exact Memref.read_access_unit_zero (Elt Ideal) main_v0 (funext fun a => by fin_cases a <;> decide) (fun a => by fin_cases a <;> decide) (V m c main_v0)

/-- The block of `x` is the whole array. -/
theorem blk1 (c : Dev nD) : iblk m c 1 t0 = V m c main_arg0 := by
  unfold iblk
  exact Memref.read_access_unit_zero (Elt Ideal) main_arg0 (funext fun a => by fin_cases a <;> decide) (fun a => by fin_cases a <;> decide) (V m c main_arg0)

/-- The block of the codes is the whole array. -/
theorem blk2 (c : Dev nD) : iblk m c 2 t0 = V m c main_arg3 := by
  unfold iblk
  exact Memref.read_access_unit_zero (Elt Ideal) main_arg3 (funext fun a => by fin_cases a <;> decide) (fun a => by fin_cases a <;> decide) (V m c main_arg3)

/-- The block of gamma is the whole array. -/
theorem blk3 (c : Dev nD) : iblk m c 3 t0 = V m c main_v1 := by
  unfold iblk
  exact Memref.read_access_unit_zero (Elt Ideal) main_v1 (funext fun a => by fin_cases a <;> decide) (fun a => by fin_cases a <;> decide) (V m c main_v1)

/-- The block of beta is the whole array. -/
theorem blk4 (c : Dev nD) : iblk m c 4 t0 = V m c main_v2 := by
  unfold iblk
  exact Memref.read_access_unit_zero (Elt Ideal) main_v2 (funext fun a => by fin_cases a <;> decide) (fun a => by fin_cases a <;> decide) (V m c main_v2)

/-- The reference's `dgamma`. -/
abbrev resG (c : Dev nD) : Vec Ideal S1x2560 .f32 :=
  k0_pay2 (k0_pay4 (V m c main_arg0)) (k0_pay7 (V m c main_arg0) (V m c main_arg3) ((V m c main_v0 : Vec Ideal S1 .f32) (ix1 0)) (V m c main_v1) (V m c main_v2)) (k0_pay8 (V m c main_arg0) (V m c main_v1) (V m c main_v2))

/-- The reference's `dbeta`. -/
abbrev resB (c : Dev nD) : Vec Ideal S1x2560 .f32 :=
  k0_pay3 (k0_pay7 (V m c main_arg0) (V m c main_arg3) ((V m c main_v0 : Vec Ideal S1 .f32) (ix1 0)) (V m c main_v1) (V m c main_v2)) (k0_pay8 (V m c main_arg0) (V m c main_v1) (V m c main_v2))

/-- The `dgamma` window after the one step. -/
theorem after5 (c : Dev nD) : (dats m 0 c).after 5 t0 = resG m c := by
  rw [after0_5, outsAt0]
  dsimp only
  rw [out5, blk0, blk1, blk2, blk3, blk4]

/-- The `dbeta` window after the one step. -/
theorem after6 (c : Dev nD) : (dats m 0 c).after 6 t0 = resB m c := by
  rw [after0_6, outsAt0]
  dsimp only
  rw [out6, blk0, blk1, blk2, blk3, blk4]

/-- The `dgamma` array at the end. -/
theorem final5 (c : Dev nD) : (dats m 0 c).arrAt 5 cfg0.N = resG m c :=
  (dats m 0 c).arrAt_eq_of_after_last 5 t0 (by decide +kernel) (resG m c) fun j => congrFun (after5 m c) j

/-- The `dbeta` array at the end. -/
theorem final6 (c : Dev nD) : (dats m 0 c).arrAt 6 cfg0.N = resB m c :=
  (dats m 0 c).arrAt_eq_of_after_last 6 t0 (by decide +kernel) (resB m c) fun j => congrFun (after6 m c) j

/-- Every launch ends with the two results at the payloads of the arrays, its five arguments unchanged. -/
theorem value : θ_run defs (onTc (τ := τ) (main (F := Ideal))) ⟨m, fun _ => 0, ρ⟩ (fun r => ∀ c : Dev nD,
      r.2.mem ((c.tc : Thread nD τ).loc main_v3_0) = resG m c
      ∧ r.2.mem ((c.tc : Thread nD τ).loc main_v3_1) = resB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final5 m c), ((h c).1 6).trans (final6 m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c)⟩) (run_main m ρ)

end Cert.Proof.ReferenceIdeal.Value

end
-- ==== Proof.Value.lean ====
/- The value claim: at a finite scale at least zero, the kernel's two gradients are the reference's. -/
module

public import proofs.«01_k».proof.Defs
public import proofs.«01_k».proof.Proof.KernForm
public import proofs.«01_k».proof.Proof.RefForm
public import proofs.«01_k».proof.Proof.RefValue
public import Idealize.ShloMosaic.Lib.StableHlo.Run
public import Idealize.ShloMosaic.Lib.Pointwise

@[expose] public section

noncomputable section

open Idealize.ShloMosaic Idealize.ShloMosaic.TcCoe

namespace Cert.Proof

set_option maxHeartbeats 1000000

section Host

variable (m : (ℓ : Loc Cert.KernelIdeal.nD Cert.KernelIdeal.τ Cert.KernelIdeal.sig) → Buf (Elt Ideal) ℓ) (c : Dev Cert.KernelIdeal.nD)

open Cert.KernelIdeal Cert.KernelIdeal.Gen

/-- The kernel's first operand is the scale, as an array of one element. -/
theorem kernel_v0 : V m c main_v0 = shapeCast S1 (m ((c.tc : Thread nD τ).loc main_arg4)) shapeCasts_S_S1 := by
  unfold V
  after_results
  rfl

/-- The kernel's gamma operand is gamma as one row. -/
theorem kernel_v1 : V m c main_v1 = shapeCast S1x2560 (m ((c.tc : Thread nD τ).loc main_arg1)) shapeCasts_S2560_S1x2560 := by
  unfold V
  after_results
  rfl

/-- The kernel's beta operand is beta as one row. -/
theorem kernel_v2 : V m c main_v2 = shapeCast S1x2560 (m ((c.tc : Thread nD τ).loc main_arg2)) shapeCasts_S2560_S1x2560 := by
  unfold V
  after_results
  rfl

end Host

section Host

variable (m : (ℓ : Loc Cert.ReferenceIdeal.nD Cert.ReferenceIdeal.τ Cert.ReferenceIdeal.sig) → Buf (Elt Ideal) ℓ) (c : Dev Cert.ReferenceIdeal.nD)

open Cert.ReferenceIdeal Cert.ReferenceIdeal.Gen

/-- The reference's first operand is the scale, as an array of one element. -/
theorem reference_v0 : V m c main_v0 = shapeCast S1 (m ((c.tc : Thread nD τ).loc main_arg4)) shapeCasts_S_S1 := by
  unfold V
  after_results
  rfl

/-- The reference's gamma operand is gamma as one row. -/
theorem reference_v1 : V m c main_v1 = shapeCast S1x2560 (m ((c.tc : Thread nD τ).loc main_arg1)) shapeCasts_S2560_S1x2560 := by
  unfold V
  after_results
  rfl

/-- The reference's beta operand is beta as one row. -/
theorem reference_v2 : V m c main_v2 = shapeCast S1x2560 (m ((c.tc : Thread nD τ).loc main_arg2)) shapeCasts_S2560_S1x2560 := by
  unfold V
  after_results
  rfl

end Host

/-- One image read out of the twenty, either way. -/
theorem image_eq {e : EltTy} (X : Vec Ideal Cert.KernelIdeal.S20x256x2560 e) (z : Elt Ideal e) (b : Fin 20) :
    KernelIdeal.at3 (KernelIdeal.Value.image X b.val) z = ReferenceIdeal.at4 X z b := by
  funext r ch
  unfold KernelIdeal.at3 ReferenceIdeal.at4
  split
  · refine congrArg X ?_
    have e : (⟨b.val % 20, Nat.mod_lt _ (by decide)⟩ : Fin 20) = b := Fin.ext (Nat.mod_eq_of_lt b.isLt)
    rw [e]
    rfl
  · rfl

section

variable (X : Vec Ideal Cert.KernelIdeal.S20x256x2560 .bf16) (D : Vec Ideal Cert.KernelIdeal.S20x256x2560 .fp8e5m2) (ga be : Vec Ideal Cert.KernelIdeal.S1x2560 .f32) (s : EReal)

/-- An index of a row of channels is a channel. -/
theorem row_idx (y : Cert.KernelIdeal.S1x2560.Idx) : ∃ ch : Fin 2560, y = ix2 0 ch :=
  ⟨y 1, funext fun a => by fin_cases a; exact Subsingleton.elim (α := Fin 1) _ _; rfl⟩

variable (h0 : 0 ≤ s) (ht : s ≠ ⊤)

include h0 ht

/-- The kernel's `dgamma` is the reference's. -/
theorem sameG : KernelIdeal.Value.colsum (KernelIdeal.Value.accG X D ga be s 20)
    = Cert.ReferenceIdeal.Gen.k0_pay2 (F := Ideal) (Cert.ReferenceIdeal.Gen.k0_pay4 X) (Cert.ReferenceIdeal.Gen.k0_pay7 X D s ga be) (Cert.ReferenceIdeal.Gen.k0_pay8 X ga be) := by
  funext y
  obtain ⟨ch, rfl⟩ := row_idx y
  refine (KernelIdeal.Value.resultG X D ga be s h0 ht ch).trans (Eq.trans ?_ (ReferenceIdeal.resultG X D s ga be ch).symm)
  rw [← Fin.sum_univ_eq_sum_range (fun b => Maths.gradG (KernelIdeal.Value.xk (KernelIdeal.Value.image X b)) (KernelIdeal.Value.dk (KernelIdeal.Value.image D b)) (KernelIdeal.at1 ga) (KernelIdeal.at1 be) s ch.val) 20]
  refine Finset.sum_congr rfl fun b _ => ?_
  rw [KernelIdeal.Value.xk, KernelIdeal.Value.dk, image_eq, image_eq]
  rfl

/-- The kernel's `dbeta` is the reference's. -/
theorem sameB : KernelIdeal.Value.colsum (KernelIdeal.Value.accB X D ga be s 20)
    = Cert.ReferenceIdeal.Gen.k0_pay3 (F := Ideal) (Cert.ReferenceIdeal.Gen.k0_pay7 X D s ga be) (Cert.ReferenceIdeal.Gen.k0_pay8 X ga be) := by
  funext y
  obtain ⟨ch, rfl⟩ := row_idx y
  refine (KernelIdeal.Value.resultB X D ga be s h0 ht ch).trans (Eq.trans ?_ (ReferenceIdeal.resultB X D s ga be ch).symm)
  rw [← Fin.sum_univ_eq_sum_range (fun b => Maths.gradB (KernelIdeal.Value.xk (KernelIdeal.Value.image X b)) (KernelIdeal.Value.dk (KernelIdeal.Value.image D b)) (KernelIdeal.at1 ga) (KernelIdeal.at1 be) s ch.val) 20]
  refine Finset.sum_congr rfl fun b _ => ?_
  rw [KernelIdeal.Value.xk, KernelIdeal.Value.dk, image_eq, image_eq]
  rfl

omit h0 ht

variable {X D ga be s} {X' : Vec Ideal Cert.KernelIdeal.S20x256x2560 .bf16} {D' : Vec Ideal Cert.KernelIdeal.S20x256x2560 .fp8e5m2} {ga' be' : Vec Ideal Cert.KernelIdeal.S1x2560 .f32} {s' : EReal}

/-- `sameG`, for operands that are equal on the two sides. -/
theorem joinG (hX : X' = X) (hD : D' = D) (hg : ga' = ga) (hb : be' = be) (hs : s' = s) (h0 : 0 ≤ s) (ht : s ≠ ⊤) :
    Cert.ReferenceIdeal.Gen.k0_pay2 (F := Ideal) (Cert.ReferenceIdeal.Gen.k0_pay4 X') (Cert.ReferenceIdeal.Gen.k0_pay7 X' D' s' ga' be') (Cert.ReferenceIdeal.Gen.k0_pay8 X' ga' be')
      = KernelIdeal.Value.colsum (KernelIdeal.Value.accG X D ga be s 20) := by
  subst hX hD hg hb hs
  exact (sameG _ _ _ _ _ h0 ht).symm

/-- `sameB`, for operands that are equal on the two sides. -/
theorem joinB (hX : X' = X) (hD : D' = D) (hg : ga' = ga) (hb : be' = be) (hs : s' = s) (h0 : 0 ≤ s) (ht : s ≠ ⊤) :
    Cert.ReferenceIdeal.Gen.k0_pay3 (F := Ideal) (Cert.ReferenceIdeal.Gen.k0_pay7 X' D' s' ga' be') (Cert.ReferenceIdeal.Gen.k0_pay8 X' ga' be')
      = KernelIdeal.Value.colsum (KernelIdeal.Value.accB X D ga be s 20) := by
  subst hX hD hg hb hs
  exact (sameB _ _ _ _ _ h0 ht).symm

end

/-- The precondition's function has no side conditions. -/
theorem facts_ordinary : Cert.Pre_ordinary.Facts := ⟨⟩

/-- The precondition read: the scale is finite and at least zero. -/
theorem scale_of_pre (a0 : FVec Ideal Cert.Pre_ordinary.S20x256x2560 .bf16) (a1 a2 : FVec Ideal Cert.Pre_ordinary.S2560 .f32) (a3 : FVec Ideal Cert.Pre_ordinary.S20x256x2560 .fp8e5m2)
    (a4 : FVec Ideal Cert.Pre_ordinary.S_ .f32) [inst : Cert.Pre_ordinary.Facts] (h1 : (Cert.Pre_ordinary.fn a0 a1 a2 a3 a4).1 = fun _ => 1#1) (h2 : (Cert.Pre_ordinary.fn a0 a1 a2 a3 a4).2 = fun _ => 1#1) :
    (0 : EReal) ≤ a4 ix0 ∧ (a4 ix0 : EReal) ≠ ⊤ := by
  have e1 := congrFun h1 ix0
  have e2 := congrFun h2 ix0
  dsimp only [Cert.Pre_ordinary.fn] at e1 e2
  simp only [pointwise] at e1 e2
  have top : Ideal.ofBits FTy.f32 0x7F800000#32 = ⊤ := by simp [Ideal.ofBits, Ideal.ieee]
  rw [top] at e2
  refine ⟨?_, ?_⟩
  · by_contra hn
    rw [decide_eq_false hn] at e1
    exact absurd e1 (by decide)
  · rintro ht
    rw [ht, decide_eq_false (lt_irrefl _)] at e2
    exact absurd e2 (by decide)

/-- The value claim: from equal arguments that meet the precondition, both runs return the same `dgamma` and `dbeta`. -/
theorem algebraic : Cert.algebraic_KernelIdeal_ReferenceIdeal_pre_ordinary (hKernelIdeal := Cert.KernelIdeal.Gen.facts) (hReferenceIdeal := Cert.ReferenceIdeal.Gen.facts) (hPre_ordinary := facts_ordinary) := by
  intro m g m' g' hpre hargs
  refine ⟨_, _, KernelIdeal.Value.value m g, ?_⟩
  refine (θ_run _ _ _).mono (fun r h c => ?_) (ReferenceIdeal.Value.value m' g')
  obtain ⟨r0, r1, rest⟩ := h c
  obtain ⟨p0, p1, p2, p3, p4⟩ := hargs c
  have hs := scale_of_pre (inst := facts_ordinary) _ _ _ _ _ (hpre c).1 (hpre c).2
  have e0 : Cert.ReferenceIdeal.Gen.V m' c Cert.ReferenceIdeal.main_arg0 = Cert.KernelIdeal.Gen.V m c Cert.KernelIdeal.main_arg0 :=
    (Cert.ReferenceIdeal.Gen.V_main_arg0 m' c).trans (p0.trans (Cert.KernelIdeal.Gen.V_main_arg0 m c).symm)
  have e3 : Cert.ReferenceIdeal.Gen.V m' c Cert.ReferenceIdeal.main_arg3 = Cert.KernelIdeal.Gen.V m c Cert.KernelIdeal.main_arg3 :=
    (Cert.ReferenceIdeal.Gen.V_main_arg3 m' c).trans (p3.trans (Cert.KernelIdeal.Gen.V_main_arg3 m c).symm)
  have f0 : Cert.ReferenceIdeal.Gen.V m' c Cert.ReferenceIdeal.main_v0 = Cert.KernelIdeal.Gen.V m c Cert.KernelIdeal.main_v0 :=
    (reference_v0 m' c).trans ((congrArg (fun u => shapeCast Cert.KernelIdeal.S1 u Cert.KernelIdeal.Facts₀.shapeCasts_S_S1) p4).trans (kernel_v0 m c).symm)
  have f1 : Cert.ReferenceIdeal.Gen.V m' c Cert.ReferenceIdeal.main_v1 = Cert.KernelIdeal.Gen.V m c Cert.KernelIdeal.main_v1 :=
    (reference_v1 m' c).trans ((congrArg (fun u => shapeCast Cert.KernelIdeal.S1x2560 u Cert.KernelIdeal.Facts₀.shapeCasts_S2560_S1x2560) p1).trans (kernel_v1 m c).symm)
  have f2 : Cert.ReferenceIdeal.Gen.V m' c Cert.ReferenceIdeal.main_v2 = Cert.KernelIdeal.Gen.V m c Cert.KernelIdeal.main_v2 :=
    (reference_v2 m' c).trans ((congrArg (fun u => shapeCast Cert.KernelIdeal.S1x2560 u Cert.KernelIdeal.Facts₀.shapeCasts_S2560_S1x2560) p2).trans (kernel_v2 m c).symm)
  have hq : (Cert.KernelIdeal.Gen.V m c Cert.KernelIdeal.main_v0 : Vec Ideal Cert.KernelIdeal.S1 .f32) (ix1 0) = m ((c.tc : Thread Cert.KernelIdeal.nD Cert.KernelIdeal.τ).loc Cert.KernelIdeal.main_arg4) ix0 := by
    rw [kernel_v0]
    unfold shapeCast
    exact congrArg (m ((c.tc : Thread Cert.KernelIdeal.nD Cert.KernelIdeal.τ).loc Cert.KernelIdeal.main_arg4)) (funext fun a => a.elim0)
  rw [← hq] at hs
  exact ⟨r0.trans (joinG e0 e3 f1 f2 (congrFun f0 (ix1 0)) hs.1 hs.2), r1.trans (joinB e0 e3 f1 f2 (congrFun f0 (ix1 0)) hs.1 hs.2), rest⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.FrameKernel
public import proofs.«01_k».proof.Proof.FrameKernelIdeal
public import proofs.«01_k».proof.Proof.Value
public import Idealize.ShloMosaic.Adequacy
public import Idealize.ShloMosaic.Init

@[expose] public section

noncomputable section

open Idealize.ShloMosaic

/-- The claim, from the generated facts, the three frames (each needs no precondition), the named constant's statement and the value theorem. -/
theorem Cert.Proof.claim : Cert.Claim :=
  ⟨Cert.Kernel.Gen.facts, Cert.KernelIdeal.Gen.facts, Cert.ReferenceIdeal.Gen.facts, Cert.Proof.facts_ordinary,
    fun m g _ => Cert.Proof.Kernel.frame m g,
    fun m g _ => Cert.Proof.KernelIdeal.frame m g, fun m g _ => Cert.Proof.KernelIdeal.frame m g,
    fun m g _ => Cert.ReferenceIdeal.Gen.frame m g, fun m g _ => Cert.ReferenceIdeal.Gen.frame m g,
    IdealRules.named_const.statement Cert.KernelIdeal.κ "inv_n" .f32 0x384CCCCD#32 ((1 / 20480 : ℝ) : EReal) rfl,
    Cert.Proof.algebraic⟩

end
